-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_regular_inputs [hPre_regular_inputs : Cert.Pre_regular_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_regular_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_regular_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_regular_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_regular_inputs [hPre_regular_inputs : Cert.Pre_regular_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_regular_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_regular_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_regular_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_regular_inputs [hKernelIdeal : Cert.KernelIdeal.Facts] [hPre_regular_inputs : Cert.Pre_regular_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_regular_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_regular_inputs [hReferenceIdeal : Cert.ReferenceIdeal.Facts] [hPre_regular_inputs : Cert.Pre_regular_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_regular_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_regular_inputs [hKernelIdeal : Cert.KernelIdeal.Facts] [hReferenceIdeal : Cert.ReferenceIdeal.Facts] [hPre_regular_inputs : Cert.Pre_regular_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_regular_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)) (v2 : (c : Dev Cert.KernelIdeal.nD) → Buf (Elt Ideal) ((c.tc : Thread Cert.KernelIdeal.nD Cert.KernelIdeal.τ).loc Cert.KernelIdeal.main_v4_2)) (v3 : (c : Dev Cert.KernelIdeal.nD) → Buf (Elt Ideal) ((c.tc : Thread Cert.KernelIdeal.nD Cert.KernelIdeal.τ).loc Cert.KernelIdeal.main_v4_3)) (v4 : (c : Dev Cert.KernelIdeal.nD) → Buf (Elt Ideal) ((c.tc : Thread Cert.KernelIdeal.nD Cert.KernelIdeal.τ).loc Cert.KernelIdeal.main_v5)) (v5 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_v4_2) = v2 c
          ∧ r.2.mem ((c.tc : Thread Cert.KernelIdeal.nD Cert.KernelIdeal.τ).loc Cert.KernelIdeal.main_v4_3) = v3 c
          ∧ r.2.mem ((c.tc : Thread Cert.KernelIdeal.nD Cert.KernelIdeal.τ).loc Cert.KernelIdeal.main_v5) = v4 c
          ∧ r.2.mem ((c.tc : Thread Cert.KernelIdeal.nD Cert.KernelIdeal.τ).loc Cert.KernelIdeal.main_v6) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v93) = v0 c
          ∧ r.2.mem ((c.tc : Thread Cert.ReferenceIdeal.nD Cert.ReferenceIdeal.τ).loc Cert.ReferenceIdeal.main_v103) = v1 c
          ∧ r.2.mem ((c.tc : Thread Cert.ReferenceIdeal.nD Cert.ReferenceIdeal.τ).loc Cert.ReferenceIdeal.main_v77) = v2 c
          ∧ r.2.mem ((c.tc : Thread Cert.ReferenceIdeal.nD Cert.ReferenceIdeal.τ).loc Cert.ReferenceIdeal.main_v26_0) = v3 c
          ∧ r.2.mem ((c.tc : Thread Cert.ReferenceIdeal.nD Cert.ReferenceIdeal.τ).loc Cert.ReferenceIdeal.main_v26_1) = v4 c
          ∧ r.2.mem ((c.tc : Thread Cert.ReferenceIdeal.nD Cert.ReferenceIdeal.τ).loc Cert.ReferenceIdeal.main_v26_2) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_regular_inputs : Cert.Pre_regular_inputs.Facts),
    quiescent_Kernel (hKernel := hKernel)
    ∧ quiescent_KernelIdeal (hKernelIdeal := hKernelIdeal)
    ∧ quiescent_KernelIdeal_pre_regular_inputs (hKernelIdeal := hKernelIdeal) (hPre_regular_inputs := hPre_regular_inputs)
    ∧ quiescent_ReferenceIdeal (hReferenceIdeal := hReferenceIdeal)
    ∧ quiescent_ReferenceIdeal_pre_regular_inputs (hReferenceIdeal := hReferenceIdeal) (hPre_regular_inputs := hPre_regular_inputs)
    ∧ preserves_Kernel_KernelIdeal
    ∧ algebraic_KernelIdeal_ReferenceIdeal_pre_regular_inputs (hKernelIdeal := hKernelIdeal) (hReferenceIdeal := hReferenceIdeal) (hPre_regular_inputs := hPre_regular_inputs)
-- ==== Pre_regular_inputs.lean ====
abbrev S80x256 : Shape := ⟨2, ![80, 256]⟩
abbrev S256 : Shape := ⟨1, ![256]⟩
abbrev S256x256 : Shape := ⟨2, ![256, 256]⟩
abbrev S524288x8 : Shape := ⟨2, ![524288, 8]⟩
abbrev S524288 : Shape := ⟨1, ![524288]⟩
abbrev S1x256 : Shape := ⟨2, ![1, 256]⟩
abbrev S_ : Shape := ⟨0, ![]⟩
abbrev S80 : Shape := ⟨1, ![80]⟩

class Facts : Prop where
  bcast_S256_S1x256_1 : S256.BroadcastsInDim S1x256 (![1] : Fin 1 → Fin S1x256.rank)
  bcast_S1x256_S80x256_0_1 : S1x256.BroadcastsInDim S80x256 (![0, 1] : Fin 2 → Fin S80x256.rank)
  bcast_S_S256x256 : S_.BroadcastsInDim S256x256 (![] : Fin 0 → Fin S256x256.rank)
  reducesTo_S80x256_S80_d1 : S80x256.ReducesTo [1] S80
  h_S_ : 0 < S_.numel
  bcast_S_S80 : S_.BroadcastsInDim S80 (![] : Fin 0 → Fin S80.rank)
  bcast_S_S524288 : S_.BroadcastsInDim S524288 (![] : Fin 0 → Fin S524288.rank)

variable [Facts]

def fn {F : FTy → Type} [FloatOps F] (main_arg0 : FVec F S80x256 .f32) (main_arg1 : FVec F S256 .f32) (main_arg2 : FVec F S256x256 .f32) (main_arg3 : FVec F S80x256 .f32) (main_arg4 : IVec S524288x8 32) (main_arg5 : FVec F S524288 .f32) (main_arg6 : FVec F S524288 .f32) : IVec S256x256 1 × IVec S80 1 × IVec S524288 1 :=
  let main_v0 : FVec F S1x256 .f32 := broadcastInDim S1x256 ![1] bcast_S256_S1x256_1 main_arg1
  let main_v1 : FVec F S80x256 .f32 := broadcastInDim S80x256 ![0, 1] bcast_S1x256_S80x256_0_1 main_v0
  let main_v2 : FVec F S80x256 .f32 := subf main_arg0 main_v1
  let main_v3 : FVec F S256x256 .f32 := Host.absf main_arg2
  let main_cst : FVec F S_ .f32 := constant S_ .f32 0x7F800000#32
  let main_v4 : FVec F S256x256 .f32 := broadcastInDim S256x256 ![] bcast_S_S256x256 main_cst
  let main_v5 : IVec S256x256 1 := cmpf .olt main_v3 main_v4
  let main_v6 : FVec F S80x256 .f32 := mulf main_v2 main_v2
  let main_cst_0 : FVec F S_ .f32 := constant S_ .f32 0x00000000#32
  let main_v7 : FVec F S80 .f32 := (fun x v => Host.reduceAdd x v reducesTo_S80x256_S80_d1 h_S_) main_v6 main_cst_0
  let main_cst_1 : FVec F S_ .f32 := constant S_ .f32 0x00000000#32
  let main_v8 : FVec F S80 .f32 := broadcastInDim S80 ![] bcast_S_S80 main_cst_1
  let main_v9 : IVec S80 1 := cmpf .ogt main_v7 main_v8
  let main_cst_2 : FVec F S_ .f32 := constant S_ .f32 0x00000000#32
  let main_v10 : FVec F S524288 .f32 := broadcastInDim S524288 ![] bcast_S_S524288 main_cst_2
  let main_v11 : IVec S524288 1 := cmpf .une main_arg6 main_v10
  (main_v5, main_v9, main_v11)
-- ==== Kernel.lean ====
abbrev S80x256 : Shape := ⟨2, ![80, 256]⟩
abbrev S256 : Shape := ⟨1, ![256]⟩
abbrev S256x256 : Shape := ⟨2, ![256, 256]⟩
abbrev S524288x8 : Shape := ⟨2, ![524288, 8]⟩
abbrev S524288 : Shape := ⟨1, ![524288]⟩
abbrev S1x256 : Shape := ⟨2, ![1, 256]⟩
abbrev S8x524288 : Shape := ⟨2, ![8, 524288]⟩
abbrev S4096x128 : Shape := ⟨2, ![4096, 128]⟩
abbrev S80x524288 : Shape := ⟨2, ![80, 524288]⟩
abbrev S1x80 : Shape := ⟨2, ![1, 80]⟩
abbrev S8x4096 : Shape := ⟨2, ![8, 4096]⟩
abbrev S32x128 : Shape := ⟨2, ![32, 128]⟩
abbrev S80x4096 : Shape := ⟨2, ![80, 4096]⟩
abbrev S6x80x128 : Shape := ⟨3, ![6, 80, 128]⟩
abbrev S4x32x128 : Shape := ⟨3, ![4, 32, 128]⟩
abbrev S80 : Shape := ⟨1, ![80]⟩
abbrev S80x1 : Shape := ⟨2, ![80, 1]⟩
abbrev S80x128 : Shape := ⟨2, ![80, 128]⟩
abbrev S1x80x128 : Shape := ⟨3, ![1, 80, 128]⟩
abbrev S128x80 : Shape := ⟨2, ![128, 80]⟩
abbrev S1x32x128 : Shape := ⟨3, ![1, 32, 128]⟩
abbrev S8x256 : Shape := ⟨2, ![8, 256]⟩
abbrev S16x256 : Shape := ⟨2, ![16, 256]⟩
abbrev S1x128 : Shape := ⟨2, ![1, 128]⟩
abbrev S1x1x128 : Shape := ⟨3, ![1, 1, 128]⟩

abbrev nBuf : Space → Nat
  | .hbm => 19
  | .vmem => 22
  | .smem => 0
  | _ => 0

abbrev bufTy : (tb : Table) → Fin (tcTables nBuf tb) → BufTy
  | .hbm, ⟨0, _⟩ => ⟨S80x256, .f32⟩
  | .hbm, ⟨1, _⟩ => ⟨S256, .f32⟩
  | .hbm, ⟨2, _⟩ => ⟨S256x256, .f32⟩
  | .hbm, ⟨3, _⟩ => ⟨S80x256, .f32⟩
  | .hbm, ⟨4, _⟩ => ⟨S524288x8, .i32⟩
  | .hbm, ⟨5, _⟩ => ⟨S524288, .f32⟩
  | .hbm, ⟨6, _⟩ => ⟨S524288, .f32⟩
  | .hbm, ⟨7, _⟩ => ⟨S1x256, .f32⟩
  | .hbm, ⟨8, _⟩ => ⟨S8x524288, .i32⟩
  | .hbm, ⟨9, _⟩ => ⟨S4096x128, .f32⟩
  | .hbm, ⟨10, _⟩ => ⟨S4096x128, .f32⟩
  | .hbm, ⟨11, _⟩ => ⟨S80x524288, .f32⟩
  | .hbm, ⟨12, _⟩ => ⟨S80x524288, .f32⟩
  | .hbm, ⟨13, _⟩ => ⟨S80x524288, .f32⟩
  | .hbm, ⟨14, _⟩ => ⟨S80x256, .i8⟩
  | .hbm, ⟨15, _⟩ => ⟨S1x80, .f32⟩
  | .hbm, ⟨16, _⟩ => ⟨S1x80, .f32⟩
  | .hbm, ⟨17, _⟩ => ⟨S80, .f32⟩
  | .hbm, ⟨18, _⟩ => ⟨S80, .f32⟩
  | .local _ .vmem, ⟨0, _⟩ => ⟨S80x256, .f32⟩
  | .local _ .vmem, ⟨1, _⟩ => ⟨S1x256, .f32⟩
  | .local _ .vmem, ⟨2, _⟩ => ⟨S256x256, .f32⟩
  | .local _ .vmem, ⟨3, _⟩ => ⟨S80x256, .f32⟩
  | .local _ .vmem, ⟨4, _⟩ => ⟨S8x4096, .i32⟩
  | .local _ .vmem, ⟨5, _⟩ => ⟨S8x4096, .i32⟩
  | .local _ .vmem, ⟨6, _⟩ => ⟨S32x128, .f32⟩
  | .local _ .vmem, ⟨7, _⟩ => ⟨S32x128, .f32⟩
  | .local _ .vmem, ⟨8, _⟩ => ⟨S32x128, .f32⟩
  | .local _ .vmem, ⟨9, _⟩ => ⟨S32x128, .f32⟩
  | .local _ .vmem, ⟨10, _⟩ => ⟨S80x4096, .f32⟩
  | .local _ .vmem, ⟨11, _⟩ => ⟨S80x4096, .f32⟩
  | .local _ .vmem, ⟨12, _⟩ => ⟨S80x4096, .f32⟩
  | .local _ .vmem, ⟨13, _⟩ => ⟨S80x4096, .f32⟩
  | .local _ .vmem, ⟨14, _⟩ => ⟨S80x4096, .f32⟩
  | .local _ .vmem, ⟨15, _⟩ => ⟨S80x4096, .f32⟩
  | .local _ .vmem, ⟨16, _⟩ => ⟨S80x256, .i8⟩
  | .local _ .vmem, ⟨17, _⟩ => ⟨S1x80, .f32⟩
  | .local _ .vmem, ⟨18, _⟩ => ⟨S1x80, .f32⟩
  | .local _ .vmem, ⟨19, _⟩ => ⟨S80x256, .bf16⟩
  | .local _ .vmem, ⟨20, _⟩ => ⟨S6x80x128, .f32⟩
  | .local _ .vmem, ⟨21, _⟩ => ⟨S4x32x128, .f32⟩
  | _, _ => ⟨S80x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev main_v4_2 : Ref sig .tc := ⟨.hbm, 13, rfl⟩
abbrev main_v4_3 : Ref sig .tc := ⟨.hbm, 14, rfl⟩
abbrev main_v4_4 : Ref sig .tc := ⟨.hbm, 15, rfl⟩
abbrev main_v4_5 : Ref sig .tc := ⟨.hbm, 16, rfl⟩
abbrev main_v5 : Ref sig .tc := ⟨.hbm, 17, rfl⟩
abbrev main_v6 : Ref sig .tc := ⟨.hbm, 18, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem11_0 : DmaSem sig := 17
abbrev cc0_sem12_0 : DmaSem sig := 18

abbrev nD : Nat := 1
abbrev τ : Topo := Topo.v7x

variable {F : FTy → Type} [FloatOps F]

abbrev grid0 : Pipeline.Grid := ⟨1, ![128], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S80x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S80x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S8x4096 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S32x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S80x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S80x4096 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S80x4096 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S80x256 .i8 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x80 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x80 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== ReferenceIdeal.lean ====
abbrev S80x256 : Shape := ⟨2, ![80, 256]⟩
abbrev S256 : Shape := ⟨1, ![256]⟩
abbrev S256x256 : Shape := ⟨2, ![256, 256]⟩
abbrev S524288x8 : Shape := ⟨2, ![524288, 8]⟩
abbrev S524288 : Shape := ⟨1, ![524288]⟩
abbrev S1x256 : Shape := ⟨2, ![1, 256]⟩
abbrev S_ : Shape := ⟨0, ![]⟩
abbrev S80 : Shape := ⟨1, ![80]⟩
abbrev S80x1 : Shape := ⟨2, ![80, 1]⟩
abbrev S524288x8x1 : Shape := ⟨3, ![524288, 8, 1]⟩
abbrev S32 : Shape := ⟨1, ![32]⟩
abbrev S1x1x32 : Shape := ⟨3, ![1, 1, 32]⟩
abbrev S524288x8x32 : Shape := ⟨3, ![524288, 8, 32]⟩
abbrev S524288x256 : Shape := ⟨2, ![524288, 256]⟩
abbrev S80x524288 : Shape := ⟨2, ![80, 524288]⟩
abbrev S1x524288 : Shape := ⟨2, ![1, 524288]⟩

abbrev nBuf : Space → Nat
  | .hbm => 136
  | .vmem => 0
  | .smem => 0
  | _ => 0

abbrev hbmTy0_0 (i : Nat) : BufTy := match i % 128 with
  | 0 => ⟨S80x256, .f32⟩
  | 1 => ⟨S256, .f32⟩
  | 2 => ⟨S256x256, .f32⟩
  | 3 => ⟨S80x256, .f32⟩
  | 4 => ⟨S524288x8, .i32⟩
  | 5 => ⟨S524288, .f32⟩
  | 6 => ⟨S524288, .f32⟩
  | 7 => ⟨S1x256, .f32⟩
  | 8 => ⟨S80x256, .f32⟩
  | 9 => ⟨S80x256, .f32⟩
  | 10 => ⟨S80x256, .f32⟩
  | 11 => ⟨S_, .f32⟩
  | 12 => ⟨S80, .f32⟩
  | 13 => ⟨S80, .f32⟩
  | 14 => ⟨S80x1, .f32⟩
  | 15 => ⟨S80x256, .f32⟩
  | 16 => ⟨S80x256, .f32⟩
  | 17 => ⟨S80x256, .f32⟩
  | 18 => ⟨S_, .f32⟩
  | 19 => ⟨S80, .f32⟩
  | 20 => ⟨S_, .f32⟩
  | 21 => ⟨S80, .f32⟩
  | 22 => ⟨S80, .f32⟩
  | 23 => ⟨S_, .f32⟩
  | 24 => ⟨S80, .f32⟩
  | 25 => ⟨S80, .f32⟩
  | 26 => ⟨S80x1, .f32⟩
  | 27 => ⟨S80x256, .f32⟩
  | 28 => ⟨S80x256, .f32⟩
  | 29 => ⟨S80x1, .f32⟩
  | 30 => ⟨S80x256, .f32⟩
  | 31 => ⟨S80x256, .f32⟩
  | 32 => ⟨S80x256, .f32⟩
  | 33 => ⟨S80x256, .f32⟩
  | 34 => ⟨S_, .f32⟩
  | 35 => ⟨S_, .f32⟩
  | 36 => ⟨S_, .f32⟩
  | 37 => ⟨S80x256, .f32⟩
  | 38 => ⟨S80x256, .f32⟩
  | 39 => ⟨S_, .f32⟩
  | 40 => ⟨S80x256, .f32⟩
  | 41 => ⟨S80x256, .f32⟩
  | 42 => ⟨S80x256, .i32⟩
  | 43 => ⟨S80x256, .i8⟩
  | 44 => ⟨S80x256, .i8⟩
  | 45 => ⟨S80, .f32⟩
  | 46 => ⟨S80, .f32⟩
  | 47 => ⟨S524288x8x1, .i32⟩
  | 48 => ⟨S32, .i32⟩
  | 49 => ⟨S1x1x32, .i32⟩
  | 50 => ⟨S524288x8x32, .i32⟩
  | 51 => ⟨S524288x8x32, .i32⟩
  | 52 => ⟨S524288x8x32, .i32⟩
  | 53 => ⟨S_, .i32⟩
  | 54 => ⟨S524288x8x32, .i32⟩
  | 55 => ⟨S524288x8x32, .i32⟩
  | 56 => ⟨S524288x256, .i32⟩
  | 57 => ⟨S524288x256, .bf16⟩
  | 58 => ⟨S80x256, .i32⟩
  | 59 => ⟨S80x256, .bf16⟩
  | 60 => ⟨S80x524288, .f32⟩
  | 61 => ⟨S524288x8, .i32⟩
  | 62 => ⟨S524288x8, .i32⟩
  | 63 => ⟨S_, .i32⟩
  | 64 => ⟨S524288, .i32⟩
  | 65 => ⟨S524288, .f32⟩
  | 66 => ⟨S80x256, .i32⟩
  | 67 => ⟨S_, .i32⟩
  | 68 => ⟨S80, .i32⟩
  | 69 => ⟨S80, .f32⟩
  | 70 => ⟨S_, .f32⟩
  | 71 => ⟨S80, .f32⟩
  | 72 => ⟨S80, .f32⟩
  | 73 => ⟨S_, .f32⟩
  | 74 => ⟨S80, .f32⟩
  | 75 => ⟨S80, .f32⟩
  | 76 => ⟨S80x1, .f32⟩
  | 77 => ⟨S80x524288, .f32⟩
  | 78 => ⟨S80x524288, .f32⟩
  | 79 => ⟨S_, .f32⟩
  | 80 => ⟨S80, .f32⟩
  | 81 => ⟨S80, .f32⟩
  | 82 => ⟨S_, .f32⟩
  | 83 => ⟨S80, .f32⟩
  | 84 => ⟨S80, .f32⟩
  | 85 => ⟨S80x1, .f32⟩
  | 86 => ⟨S1x524288, .f32⟩
  | 87 => ⟨S80x524288, .f32⟩
  | 88 => ⟨S80x524288, .f32⟩
  | 89 => ⟨S80x524288, .f32⟩
  | 90 => ⟨S80x524288, .f32⟩
  | 91 => ⟨S_, .f32⟩
  | 92 => ⟨S80, .f32⟩
  | 93 => ⟨S80, .f32⟩
  | 94 => ⟨S80, .f32⟩
  | 95 => ⟨S80x1, .f32⟩
  | 96 => ⟨S80x524288, .f32⟩
  | 97 => ⟨S80x524288, .f32⟩
  | 98 => ⟨S_, .f32⟩
  | 99 => ⟨S80, .f32⟩
  | 100 => ⟨S80, .f32⟩
  | 101 => ⟨S80x1, .f32⟩
  | 102 => ⟨S80x524288, .f32⟩
  | 103 => ⟨S80x524288, .f32⟩
  | 104 => ⟨S1x524288, .f32⟩
  | 105 => ⟨S80x524288, .f32⟩
  | 106 => ⟨S80x524288, .f32⟩
  | 107 => ⟨S1x524288, .f32⟩
  | 108 => ⟨S80x1, .f32⟩
  | 109 => ⟨S80x524288, .f32⟩
  | 110 => ⟨S80x524288, .f32⟩
  | 111 => ⟨S80x524288, .f32⟩
  | 112 => ⟨S524288, .f32⟩
  | 113 => ⟨S1x524288, .f32⟩
  | 114 => ⟨S80, .f32⟩
  | 115 => ⟨S80x1, .f32⟩
  | 116 => ⟨S80x524288, .f32⟩
  | 117 => ⟨S80x524288, .f32⟩
  | 118 => ⟨S80x524288, .f32⟩
  | 119 => ⟨S_, .f32⟩
  | 120 => ⟨S80x524288, .f32⟩
  | 121 => ⟨S80x524288, .f32⟩
  | 122 => ⟨S80x524288, .f32⟩
  | 123 => ⟨S80x524288, .f32⟩
  | 124 => ⟨S524288, .f32⟩
  | 125 => ⟨S_, .f32⟩
  | 126 => ⟨S524288, .f32⟩
  | 127 => ⟨S524288, .f32⟩
  | _ => ⟨S80x256, .f32⟩

abbrev hbmTy0_1 (i : Nat) : BufTy := match i % 128 with
  | 0 => ⟨S524288, .f32⟩
  | 1 => ⟨S524288, .f32⟩
  | 2 => ⟨S1x524288, .f32⟩
  | 3 => ⟨S80x524288, .f32⟩
  | 4 => ⟨S80x524288, .f32⟩
  | 5 => ⟨S_, .f32⟩
  | 6 => ⟨S80x524288, .f32⟩
  | 7 => ⟨S80x524288, .f32⟩
  | _ => ⟨S80x256, .f32⟩

abbrev hbmTy (i : Nat) : BufTy := match i / 128 with
  | 0 => hbmTy0_0 i
  | 1 => hbmTy0_1 i
  | _ => ⟨S80x256, .f32⟩

abbrev bufTy : (tb : Table) → Fin (tcTables nBuf tb) → BufTy
  | .hbm, ⟨i, _⟩ => hbmTy i
  | _, _ => ⟨S80x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_3 : Ref sig .tc := ⟨.hbm, 34, rfl⟩
abbrev main_cst_4 : Ref sig .tc := ⟨.hbm, 35, rfl⟩
abbrev main_call0_v0 : Ref sig .tc := ⟨.hbm, 36, rfl⟩
abbrev main_call0_v1 : Ref sig .tc := ⟨.hbm, 37, rfl⟩
abbrev main_call0_v2 : Ref sig .tc := ⟨.hbm, 38, rfl⟩
abbrev main_call0_v3 : Ref sig .tc := ⟨.hbm, 39, rfl⟩
abbrev main_call0_v4 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26_0 : Ref sig .tc := ⟨.hbm, 44, rfl⟩
abbrev main_v26_1 : Ref sig .tc := ⟨.hbm, 45, rfl⟩
abbrev main_v26_2 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_c : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_c_5 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_c_6 : Ref sig .tc := ⟨.hbm, 67, rfl⟩
abbrev main_v45 : Ref sig .tc := ⟨.hbm, 68, rfl⟩
abbrev main_v46 : Ref sig .tc := ⟨.hbm, 69, rfl⟩
abbrev main_cst_7 : Ref sig .tc := ⟨.hbm, 70, rfl⟩
abbrev main_v47 : Ref sig .tc := ⟨.hbm, 71, rfl⟩
abbrev main_v48 : Ref sig .tc := ⟨.hbm, 72, rfl⟩
abbrev main_cst_8 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_cst_9 : Ref sig .tc := ⟨.hbm, 79, rfl⟩
abbrev main_v54 : Ref sig .tc := ⟨.hbm, 80, rfl⟩
abbrev main_v55 : Ref sig .tc := ⟨.hbm, 81, rfl⟩
abbrev main_cst_10 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_cst_11 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_cst_12 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_cst_13 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_cst_14 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_cst_15 : Ref sig .tc := ⟨.hbm, 133, rfl⟩
abbrev main_v102 : Ref sig .tc := ⟨.hbm, 134, rfl⟩
abbrev main_v103 : Ref sig .tc := ⟨.hbm, 135, rfl⟩

abbrev nD : Nat := 1
abbrev τ : Topo := Topo.v7x

variable {F : FTy → Type} [FloatOps F]
-- ==== Proof.Frame.Runs.lean ====
/- The printed kernel's frame, at any float values, its outputs' contents left unnamed: what the two runs of the body (the
   first point, a later one) share. -/
module

public import proofs.«01_k».proof.Proof.Gen.Kernel.Skeleton
public import proofs.«01_k».proof.Proof.Gen.Kernel.Frame
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel.Gen
open Cert.Kernel.Facts
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The buffers the lines after the region WRITE, as references: results computed from contents the run does not name
    (an operand the body wrote by its own DMA, or a forgotten output), so nothing is stated of them either. -/
def T0 : Finset (Ref sig .tc) := {main_v5, main_v6}
theorem sfx_writes : ∀ ops ∈ ([hostOps1] : List (List (HloOp τ sig (Elt F)))), ∀ op ∈ ops,
    ∀ b : Ref sig .tc, Proc.devRef .tc b ∈ op.writes → b ∈ T0 := by
  intro ops hops op hop
  simp only [List.mem_cons, List.mem_nil_iff, or_false] at hops
  rcases hops with rfl
  · simp only [hostOps1, List.mem_cons, List.mem_nil_iff, or_false] at hop
    rcases hop with rfl | rfl
    all_goals intro b hb; simp only [StableHlo.nullary_writes, StableHlo.unary_writes, StableHlo.binary_writes, StableHlo.ternary_writes, StableHlo.quaternary_writes, StableHlo.reshape_writes, StableHlo.binaryIndexed_writes, Finset.mem_singleton] at hb; cases Proc.devRef_injective _ hb; decide

/-! ## The frame claim's post from the frame run's -/

/-- THE FRAME from a frame run: for any proof data whose arrays are the region-entry contents (`hA`), a run to
    Lib/Pipeline/Frame.lean's `RDat.FramePostR` read at the argument arrays — a staged input by the library's
    `RDat.FramePostR.arr_in`, an array no window stages (none is in `T0`) by the post's second clause, each then by `V_…` — is the frame
    claim's post (`Cert.frame_Kernel`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePostR (cfgs 0) rdat T0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(Pipeline.RDat.FramePostR.arr_in h c 0 rfl).trans ((hA c 0).trans (V_main_arg0 m c)),
      ((h c).2 main_arg1 (Finset.mem_sdiff.mpr ⟨Pipeline.mem_restRefs_of main_arg1 (by decide) (by decide), by decide⟩)).trans (V_main_arg1 m c),
      (Pipeline.RDat.FramePostR.arr_in h c 2 rfl).trans ((hA c 2).trans (V_main_arg2 m c)),
      (Pipeline.RDat.FramePostR.arr_in h c 3 rfl).trans ((hA c 3).trans (V_main_arg3 m c)),
      ((h c).2 main_arg4 (Finset.mem_sdiff.mpr ⟨Pipeline.mem_restRefs_of main_arg4 (by decide) (by decide), by decide⟩)).trans (V_main_arg4 m c),
      ((h c).2 main_arg5 (Finset.mem_sdiff.mpr ⟨Pipeline.mem_restRefs_of main_arg5 (by decide) (by decide), by decide⟩)).trans (V_main_arg5 m c),
      ((h c).2 main_arg6 (Finset.mem_sdiff.mpr ⟨Pipeline.mem_restRefs_of main_arg6 (by decide) (by decide), by decide⟩)).trans (V_main_arg6 m c)⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 128 = 0 :=
  (fun t => by
    have ht : t.val < 128 := Nat.lt_of_lt_of_eq t.isLt N_0
    have e0 : (grid0.coords t 0).val = t.val / 1 % 128 := Pipeline.Grid.coords_val t 0 (by decide) rfl
    simp only [cond0_0, k0_cond1, e0]
    word_cmp
   : ∀ t : Fin grid0.N, cond0_0 (grid0.coords t) ↔ t.val % 128 = 0)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S80x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S80x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S8x4096 .i32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S32x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S32x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S80x4096 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S80x4096 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S80x4096 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S80x256 .i8 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x80 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x80 .f32 := win0_12.stage (cfg0.slots t 12)
abbrev hs0_12 (t : Fin cfg0.N) : (ms0_12 t).IsWhole := hstage0_12 ((cfg0.slots t 12).cast nbuf0_12)
/-- The scratch operands: whole scoped buffers of the kernel's own, passed beside the windows. -/
abbrev scM0_0 : Memref sig .tc .vmem S80x256 .bf16 := Memref.whole cc0_scratch0
abbrev scM0_1 : Memref sig .tc .vmem S6x80x128 .f32 := Memref.whole cc0_scratch1
abbrev scM0_2 : Memref sig .tc .vmem S4x32x128 .f32 := Memref.whole cc0_scratch2

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.Kernel.Whole

end
-- ==== Proof.Frame.RunA.lean ====
/- The kernel body at one of the two kinds of point: it runs, and hands every buffer back at some contents. -/
module

public import proofs.«01_k».proof.Proof.Frame.Runs

@[expose] public section

-- membership in a rectangle of production extents (`View.cover_of_tiled`): the elaborator's structural look
-- recurses once per coordinate of the long axes
set_option maxRecDepth 16384

noncomputable section

namespace Cert.Kernel.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel.Gen
open Cert.Kernel.Facts
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 3128000 in
/-- The body's triple IN CASE A (`scf.if` 0 taken: points 0): on whole staging memrefs — the inputs' at their contents,
    the FORGOTTEN outputs' (7, 8, 9, 10, 11, 12) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_A (c : Dev nD) (i : grid0.Coords) (arg1 : Memref sig .tc .vmem S80x256 .f32) (harg1 : arg1.IsWhole) (arg2 : Memref sig .tc .vmem S1x256 .f32) (harg2 : arg2.IsWhole) (arg3 : Memref sig .tc .vmem S256x256 .f32) (harg3 : arg3.IsWhole) (arg4 : Memref sig .tc .vmem S80x256 .f32) (harg4 : arg4.IsWhole) (arg5 : Memref sig .tc .vmem S8x4096 .i32) (harg5 : arg5.IsWhole) (arg6 : Memref sig .tc .vmem S32x128 .f32) (harg6 : arg6.IsWhole) (arg7 : Memref sig .tc .vmem S32x128 .f32) (harg7 : arg7.IsWhole) (arg8 : Memref sig .tc .vmem S80x4096 .f32) (harg8 : arg8.IsWhole) (arg9 : Memref sig .tc .vmem S80x4096 .f32) (harg9 : arg9.IsWhole) (arg10 : Memref sig .tc .vmem S80x4096 .f32) (harg10 : arg10.IsWhole) (arg11 : Memref sig .tc .vmem S80x256 .i8) (harg11 : arg11.IsWhole) (arg12 : Memref sig .tc .vmem S1x80 .f32) (harg12 : arg12.IsWhole) (arg13 : Memref sig .tc .vmem S1x80 .f32) (harg13 : arg13.IsWhole) (arg14 : Memref sig .tc .vmem S80x256 .bf16) (harg14 : arg14.IsWhole) (arg15 : Memref sig .tc .vmem S6x80x128 .f32) (harg15 : arg15.IsWhole) (arg16 : Memref sig .tc .vmem S4x32x128 .f32) (harg16 : arg16.IsWhole) (hc0 : cond0_0 i)
    (x0 : Vec F S80x256 .f32) (x1 : Vec F S1x256 .f32) (x2 : Vec F S256x256 .f32) (x3 : Vec F S80x256 .f32) (x4 : Vec F S8x4096 .i32) (x5 : Vec F S32x128 .f32) (x6 : Vec F S32x128 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)) -∗ K ⟨⟩))
          ⊢ wp frame (wpE (defs₀ (F := F)) Variants.none c none) E (cc0_rabitq_estimate i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
    intro E K
    simp only [cc0_rabitq_estimate_eq_skeleton]; unfold cc0_rabitq_estimate_skel
    simp only [k0_part80_eq_skeleton, k0_part4_eq_skeleton, k0_part1_eq_skeleton, k0_part2_eq_skeleton, k0_part3_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part81_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%ds0, %fs0, -, HS0⟩, ⟨%ds1, %fs1, -, HS1⟩, ⟨%ds2, %fs2, -, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [HS0]
    · iexists _, _; isplitr; swap; · iexact HS0
      ipureintro; rfl
    isplitl [HS1]
    · iexists _, _; isplitr; swap; · iexact HS1
      ipureintro; rfl
    iexists _, _; isplitr; swap; · iexact HS2
    ipureintro; rfl

end Cert.Kernel.Whole

end
-- ==== Proof.Frame.RunB.lean ====
/- The kernel body at the other kind of point: it runs, and hands every buffer back at some contents. -/
module

public import proofs.«01_k».proof.Proof.Frame.RunA

@[expose] public section

-- membership in a rectangle of production extents (`View.cover_of_tiled`): the elaborator's structural look
-- recurses once per coordinate of the long axes
set_option maxRecDepth 16384

noncomputable section

namespace Cert.Kernel.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel.Gen
open Cert.Kernel.Facts
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 2948000 in
/-- The body's triple IN CASE B (`scf.if` 0 not taken: points 1, 2, … 127: 127 of 128): on whole staging memrefs — the inputs' at their contents,
    the FORGOTTEN outputs' (7, 8, 9, 10, 11, 12) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_B (c : Dev nD) (i : grid0.Coords) (arg1 : Memref sig .tc .vmem S80x256 .f32) (harg1 : arg1.IsWhole) (arg2 : Memref sig .tc .vmem S1x256 .f32) (harg2 : arg2.IsWhole) (arg3 : Memref sig .tc .vmem S256x256 .f32) (harg3 : arg3.IsWhole) (arg4 : Memref sig .tc .vmem S80x256 .f32) (harg4 : arg4.IsWhole) (arg5 : Memref sig .tc .vmem S8x4096 .i32) (harg5 : arg5.IsWhole) (arg6 : Memref sig .tc .vmem S32x128 .f32) (harg6 : arg6.IsWhole) (arg7 : Memref sig .tc .vmem S32x128 .f32) (harg7 : arg7.IsWhole) (arg8 : Memref sig .tc .vmem S80x4096 .f32) (harg8 : arg8.IsWhole) (arg9 : Memref sig .tc .vmem S80x4096 .f32) (harg9 : arg9.IsWhole) (arg10 : Memref sig .tc .vmem S80x4096 .f32) (harg10 : arg10.IsWhole) (arg11 : Memref sig .tc .vmem S80x256 .i8) (harg11 : arg11.IsWhole) (arg12 : Memref sig .tc .vmem S1x80 .f32) (harg12 : arg12.IsWhole) (arg13 : Memref sig .tc .vmem S1x80 .f32) (harg13 : arg13.IsWhole) (arg14 : Memref sig .tc .vmem S80x256 .bf16) (harg14 : arg14.IsWhole) (arg15 : Memref sig .tc .vmem S6x80x128 .f32) (harg15 : arg15.IsWhole) (arg16 : Memref sig .tc .vmem S4x32x128 .f32) (harg16 : arg16.IsWhole) (hc0 : ¬cond0_0 i)
    (x0 : Vec F S80x256 .f32) (x1 : Vec F S1x256 .f32) (x2 : Vec F S256x256 .f32) (x3 : Vec F S80x256 .f32) (x4 : Vec F S8x4096 .i32) (x5 : Vec F S32x128 .f32) (x6 : Vec F S32x128 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)) -∗ K ⟨⟩))
          ⊢ wp frame (wpE (defs₀ (F := F)) Variants.none c none) E (cc0_rabitq_estimate i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
    intro E K
    simp only [cc0_rabitq_estimate_eq_skeleton]; unfold cc0_rabitq_estimate_skel
    simp only [k0_part80_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part81_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%ds0, %fs0, -, HS0⟩, ⟨%ds1, %fs1, -, HS1⟩, ⟨%ds2, %fs2, -, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [HS0]
    · iexists _, _; isplitr; swap; · iexact HS0
      ipureintro; rfl
    isplitl [HS1]
    · iexists _, _; isplitr; swap; · iexact HS1
      ipureintro; rfl
    iexists _, _; isplitr; swap; · iexact HS2
    ipureintro; rfl

end Cert.Kernel.Whole

end
-- ==== Proof.Frame.Whole.lean ====
/- The printed kernel's frame, at any float values: every run ends, the arguments unchanged and the counters at zero. -/
module

public import proofs.«01_k».proof.Proof.Frame.RunB
public import Idealize.ShloMosaic.Lib.Claim

@[expose] public section

-- membership in a rectangle of production extents (`View.cover_of_tiled`): the elaborator's structural look
-- recurses once per coordinate of the long axes
set_option maxRecDepth 16384

noncomputable section

namespace Cert.Kernel.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel.Gen
open Cert.Kernel.Facts
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows this certificate FORGETS (7, 8, 9, 10, 11, 12): nothing reads what the kernel leaves in them, so nothing
    of it is named (Lib/Pipeline/Dat.lean `Dat.toRForget`). -/
def forgets0 : Fin 13 → Bool := fun w => w.val == 7 || w.val == 8 || w.val == 9 || w.val == 10 || w.val == 11 || w.val == 12

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
    | ⟨10, h⟩ => Pipeline.Dat.unnamed (cfg := cfg0) ⟨10, h⟩ t
    | ⟨11, h⟩ => Pipeline.Dat.unnamed (cfg := cfg0) ⟨11, h⟩ t
    | ⟨12, h⟩ => Pipeline.Dat.unnamed (cfg := cfg0) ⟨12, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare d)
    ∗ (∃ d, owns (c : Thread nD τ) (ms0_8 t) fullShare d)
    ∗ (∃ d, owns (c : Thread nD τ) (ms0_9 t) fullShare d)
    ∗ (∃ d, owns (c : Thread nD τ) (ms0_10 t) fullShare d)
    ∗ (∃ d, owns (c : Thread nD τ) (ms0_11 t) fullShare d)
    ∗ (∃ d, owns (c : Thread nD τ) (ms0_12 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (∃ d, owns (c : Thread nD τ) (ms0_7 t) fullShare d)
    ∗ (∃ d, owns (c : Thread nD τ) (ms0_8 t) fullShare d)
    ∗ (∃ d, owns (c : Thread nD τ) (ms0_9 t) fullShare d)
    ∗ (∃ d, owns (c : Thread nD τ) (ms0_10 t) fullShare d)
    ∗ (∃ d, owns (c : Thread nD τ) (ms0_11 t) fullShare d)
    ∗ (∃ d, owns (c : Thread nD τ) (ms0_12 t) fullShare d))

set_option maxHeartbeats 3200000 in
/-- The body at any point: the inputs' memrefs hold their blocks (`before0_W`); the closed forms say which case the point is in (`by_cases`), an output the case reads before covering holds what the point before left (`before0_W_κ`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA0_eq]
  have hN : t.val < 128 := lt_of_lt_of_eq t.isLt (show cfg0.N = 128 from N_0)
  by_cases h0 : t.val % 128 = 0
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [show (dats m 0 c).leavesExact 5 t = owns (c : Thread nD τ) (ms0_5 t) fullShare ((dats m 0 c).after 5 t) from by
      unfold Dat.leavesExact; rw [liveAt0_5 t], after0_5]
    rw [show (dats m 0 c).leavesExact 6 t = owns (c : Thread nD τ) (ms0_6 t) fullShare ((dats m 0 c).after 6 t) from by
      unfold Dat.leavesExact; rw [liveAt0_6 t], after0_6]
    iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply ((kernelRun0_A c (grid0.coords t) _ _ _ _ _ _ _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    isplitl [HS0]; · iexact HS0
    isplitl [HS1]; · iexact HS1
    isplitl [HS2]; · iexact HS2
    iintro ⟨H0, H1, H2, H3, H4, H5, H6, H7, H8, H9, H10, H11, H12, HS0, HS1, HS2⟩
    isplitl [HS0 HS1 HS2 Hg]
    · isplitl [HS0 HS1 HS2]
      · isplitl [HS0]
        · iexact HS0
        isplitl [HS1]
        · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [show (dats m 0 c).leavesExact 5 t = owns (c : Thread nD τ) (ms0_5 t) fullShare ((dats m 0 c).after 5 t) from by
      unfold Dat.leavesExact; rw [liveAt0_5 t], after0_5]
    rw [show (dats m 0 c).leavesExact 6 t = owns (c : Thread nD τ) (ms0_6 t) fullShare ((dats m 0 c).after 6 t) from by
      unfold Dat.leavesExact; rw [liveAt0_6 t], after0_6]
    iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply ((kernelRun0_B c (grid0.coords t) _ _ _ _ _ _ _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    isplitl [HS0]; · iexact HS0
    isplitl [HS1]; · iexact HS1
    isplitl [HS2]; · iexact HS2
    iintro ⟨H0, H1, H2, H3, H4, H5, H6, H7, H8, H9, H10, H11, H12, HS0, HS1, HS2⟩
    isplitl [HS0 HS1 HS2 Hg]
    · isplitl [HS0 HS1 HS2]
      · isplitl [HS0]
        · iexact HS0
        isplitl [HS1]
        · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_around_T_forget`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.RDat.FramePostR (cfgs 0) (fun c => (dats m 0 c).toRForget forgets0) T0 (V m)) r ∧ r.2.sem = fun _ => 0) :=
  Pipeline.θ_run_frame_around_T_forget (Q' := _) cfgs (dats m) (0 : Fin 1) launch0 defs₀ Variants.none forgets0 T0 m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps) (hT := sfx_writes)
    (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 7, 8, 9, 10, 11, 12) (Lib/Pipeline/Frame.lean `RDat.FramePostR` over the proof data with those windows
    forgotten, Dat.lean `Dat.toRForget`), and every other unscoped buffer outside `T0` at its region-entry contents. -/
theorem run_main : θ_run defs (onTc (τ := τ) (main (F := F))) (s₀ m ρ) (Pipeline.RDat.FramePostR (cfgs 0) (fun c => (dats m 0 c).toRForget forgets0) T0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (fun c => (dats m 0 c).toRForget forgets0) (A_eq m) (run_main m ρ)

/-- THE FRAME: `Cert.quiescent_Kernel`'s statement (Defs.lean) at any `F`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main_quiescent m ρ))

end Cert.Kernel.Whole

end
-- ==== Proof.Body.Opening.lean ====
/- The opening of the kernel body: what the first point of the grid prepares from the queries (the codes, the two
   affine parameters, the permuted code matrix and the six row planes), and the four column planes every point prepares
   from its block of the database. Each buffer's contents are given as closed functions of the blocks. -/
module

public import proofs.«01_k».proof.Proof.Gen.KernelIdeal.Skeleton
public import proofs.«01_k».proof.Proof.Gen.KernelIdeal.Frame
public import Idealize.ShloMosaic.Lib.Pipeline.ValueKit

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen
open Cert.KernelIdeal.Facts

variable {F : FTy → Type} [FloatOps F]

local notation "𝕄" => MT nD τ sig Unit (Elt F) ℕ (UR sig nD τ) ℕ

/-! ## What the first point prepares from the queries -/

section Prepared
variable (x0 : Vec F S80x256 .f32) (x1 : Vec F S1x256 .f32) (x2 : Vec F S256x256 .f32) (x3 : Vec F S80x256 .f32)

/-- The permutation matrix the codes are multiplied by. -/
def permOf : FVec F S256x256 .bf16 :=
  k0_pay10 (F := F) (iota .tc S256x256 32 [0] iota_S256x256_d0_w32) (iota .tc S256x256 32 [1] iota_S256x256_d1_w32)
    16#32 (Scalar.cmpi .eq 16#32 0#32)

/-- The permuted and halved code matrix, the left operand of every chunk's product. -/
def lhsOf : Vec F S80x256 .bf16 :=
  k0_pay12 permOf (k0_pay11 (k0_pay7 x0 x1 x2 x3)) (constant S80x256 .f32 0x00000000#32)

/-- The codes. -/
def codesOf : Vec F S80x256 .i8 := k0_pay8 x0 x1 x2 x3

/-- The step of the quantiser, one per query. -/
def deltaOf : Vec F S1x80 .f32 := k0_pay22 (k0_pay6 x0 x1 x2)

/-- The offset of the quantiser, one per query. -/
def vlOf : Vec F S1x80 .f32 := k0_pay23 (k0_pay5 x0 x1 x2)

/-- The six row planes. -/
def rowOf : Vec F S6x80x128 .f32 := View.canon (Val := Elt F) (s := S6x80x128) (e := .f32)
  [⟨Rect.unit (s := S6x80x128) ![5, 0, 0] S1x80x128.size inb_S6x80x128_S1x80x128_5_0_0, k0_pay21 (k0_pay14 (k0_pay3 x0 x1))⟩,
   ⟨Rect.unit (s := S6x80x128) ![4, 0, 0] S1x80x128.size inb_S6x80x128_S1x80x128_4_0_0, k0_pay20 (k0_pay13 (k0_pay3 x0 x1))⟩,
   ⟨Rect.unit (s := S6x80x128) ![3, 0, 0] S1x80x128.size inb_S6x80x128_S1x80x128_3_0_0, k0_pay19 (k0_pay3 x0 x1)⟩,
   ⟨Rect.unit (s := S6x80x128) ![2, 0, 0] S1x80x128.size inb_S6x80x128_S1x80x128_2_0_0,
     k0_pay18 (k0_pay17 (k0_pay5 x0 x1 x2) (k0_pay6 x0 x1 x2) (k0_pay9 x0 x1 x2 x3))⟩,
   ⟨Rect.unit (s := S6x80x128) ![1, 0, 0] S1x80x128.size inb_S6x80x128_S1x80x128_1_0_0, k0_pay16 (k0_pay5 x0 x1 x2)⟩,
   ⟨Rect.unit (s := S6x80x128) ![0, 0, 0] S1x80x128.size inb_S6x80x128_S1x80x128_0_0_0, k0_pay15 (k0_pay6 x0 x1 x2)⟩]

end Prepared

/-- The four column planes a point prepares from its block of the database's norms (`x5`) and of the database's inner
    products with their own codes (`x6`). -/
def colOf (x5 x6 : Vec F S32x128 .f32) : Vec F S4x32x128 .f32 := View.canon (Val := Elt F) (s := S4x32x128) (e := .f32)
  [⟨Rect.unit (s := S4x32x128) ![3, 0, 0] S1x32x128.size inb_S4x32x128_S1x32x128_3_0_0, k0_pay29 x5 x6⟩,
   ⟨Rect.unit (s := S4x32x128) ![2, 0, 0] S1x32x128.size inb_S4x32x128_S1x32x128_2_0_0, k0_pay28 x5⟩,
   ⟨Rect.unit (s := S4x32x128) ![1, 0, 0] S1x32x128.size inb_S4x32x128_S1x32x128_1_0_0, k0_pay27 x5⟩,
   ⟨Rect.unit (s := S4x32x128) ![0, 0, 0] S1x32x128.size inb_S4x32x128_S1x32x128_0_0_0, k0_pay26 x6⟩]

/-- The words of the first chunk, which the opening reads. -/
def words0 (x4 : Vec F S8x4096 .i32) : Vec F S8x256 .i32 :=
  View.ld x4 (Rect.unit (s := S8x4096) ![0, 0] S8x256.size inb_S8x4096_S8x256_0_0)

/-- The condition under which the body prepares the queries. -/
abbrev isFirst (i : grid0.Coords) : Prop := k0_cond1 i = 1#1

/-- It holds at the first point only. -/
theorem isFirst_iff (t : Fin cfg0.N) : isFirst (grid0.coords t) ↔ t.val = 0 :=
  (fun t => by
    have ht : t.val < 128 := Nat.lt_of_lt_of_eq t.isLt N_0
    have e0 : (grid0.coords t 0).val = t.val / 1 % 128 := Pipeline.Grid.coords_val t 0 (by decide) rfl
    have h : isFirst (grid0.coords t) ↔ t.val % 128 = 0 := by
      simp only [isFirst, k0_cond1, e0]
      word_cmp
    rw [h]; omega
   : ∀ t : Fin grid0.N, isFirst (grid0.coords t) ↔ t.val = 0) t

/-! ## The runs -/

section Runs
variable (c : Dev nD) (i : grid0.Coords)
  (arg1 : Memref sig .tc .vmem S80x256 .f32) (harg1 : arg1.IsWhole)
  (arg2 : Memref sig .tc .vmem S1x256 .f32) (harg2 : arg2.IsWhole)
  (arg3 : Memref sig .tc .vmem S256x256 .f32) (harg3 : arg3.IsWhole)
  (arg4 : Memref sig .tc .vmem S80x256 .f32) (harg4 : arg4.IsWhole)
  (arg5 : Memref sig .tc .vmem S8x4096 .i32) (harg5 : arg5.IsWhole)
  (arg6 : Memref sig .tc .vmem S32x128 .f32) (harg6 : arg6.IsWhole)
  (arg7 : Memref sig .tc .vmem S32x128 .f32) (harg7 : arg7.IsWhole)
  (arg8 : Memref sig .tc .vmem S80x4096 .f32) (harg8 : arg8.IsWhole)
  (arg9 : Memref sig .tc .vmem S80x4096 .f32) (harg9 : arg9.IsWhole)
  (arg10 : Memref sig .tc .vmem S80x4096 .f32) (harg10 : arg10.IsWhole)
  (arg11 : Memref sig .tc .vmem S80x256 .i8) (harg11 : arg11.IsWhole)
  (arg12 : Memref sig .tc .vmem S1x80 .f32) (harg12 : arg12.IsWhole)
  (arg13 : Memref sig .tc .vmem S1x80 .f32) (harg13 : arg13.IsWhole)
  (arg14 : Memref sig .tc .vmem S80x256 .bf16) (harg14 : arg14.IsWhole)
  (arg15 : Memref sig .tc .vmem S6x80x128 .f32) (harg15 : arg15.IsWhole)
  (arg16 : Memref sig .tc .vmem S4x32x128 .f32) (harg16 : arg16.IsWhole)
  (x0 : Vec F S80x256 .f32) (x1 : Vec F S1x256 .f32) (x2 : Vec F S256x256 .f32) (x3 : Vec F S80x256 .f32)
  (x4 : Vec F S8x4096 .i32) (x5 x6 : Vec F S32x128 .f32)

/-- What the opening leaves, whatever the point: the inputs as they were, the query outputs and the two query scratches at
    given contents, the column planes, and the first chunk's words returned. -/
def opened (codes : Vec F S80x256 .i8) (dl vl : Vec F S1x80 .f32) (lhs : Vec F S80x256 .bf16) (row : Vec F S6x80x128 .f32)
    (v30 : Vec F S8x256 .i32) : sProp 𝕄 :=
  iprop(⌜v30 = words0 x4⌝ ∗ owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
    ∗ owns (c : Thread nD τ) arg11 fullShare codes ∗ owns (c : Thread nD τ) arg12 fullShare dl ∗ owns (c : Thread nD τ) arg13 fullShare vl
    ∗ owns (c : Thread nD τ) arg14 fullShare lhs ∗ owns (c : Thread nD τ) arg15 fullShare row ∗ owns (c : Thread nD τ) arg16 fullShare (colOf x5 x6))

set_option maxHeartbeats 2000000 in
/-- The opening at the first point: the queries are prepared. -/
theorem open_first (hc : isFirst i) (E : Set ℕ) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
      ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d))
    ⊢ wp frame (wpE (defs₀ (F := F)) Variants.none c none) E (k0_part4 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16)
      (fun v30 => opened c arg1 arg2 arg3 arg4 arg5 arg6 arg7 arg11 arg12 arg13 arg14 arg15 arg16 x0 x1 x2 x3 x4 x5 x6 (codesOf x0 x1 x2 x3) (deltaOf x0 x1 x2) (vlOf x0 x1 x2) (lhsOf x0 x1 x2 x3) (rowOf x0 x1 x2 x3) v30) := by
  simp only [k0_part4_eq_skeleton]; unfold k0_part4_skel
  simp only [k0_part1_eq_skeleton, k0_part2_eq_skeleton, k0_part3_eq_skeleton]
  unfold opened owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d10, %f10, -, H10⟩, ⟨%d11, %f11, -, H11⟩, ⟨%d12, %f12, -, H12⟩, ⟨%ds0, %fs0, -, HS0⟩, ⟨%ds1, %fs1, -, HS1⟩, ⟨%ds2, %fs2, -, HS2⟩⟩
  obtain rfl := harg1.eq_unread hf0; obtain rfl := harg2.eq_unread hf1; obtain rfl := harg3.eq_unread hf2
  obtain rfl := harg4.eq_unread hf3; obtain rfl := harg5.eq_unread hf4; obtain rfl := harg6.eq_unread hf5
  obtain rfl := harg7.eq_unread hf6
  sl_exec (disch := first | sl_exact hc)
  sl_step
  isplitr
  · ipureintro; exact congrArg (fun X => View.ld X (Rect.unit (s := S8x4096) ![0, 0] S8x256.size inb_S8x4096_S8x256_0_0)) (harg5.read_unread x4)
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H10]
  · iexists _; isplitr
    swap; · iexact H10
    ipureintro
    refine Eq.trans (View.read_writes_eq_canon _ _ _ ?_) ?_
    · intro y; exact View.cover_of_tiledL (s := S80x256) _ S80x256.size (by sl_kernel_rfl) y
    frame_out
    rfl
  isplitl [H11]
  · iexists _; isplitr
    swap; · iexact H11
    ipureintro
    refine Eq.trans (View.read_writes_eq_canon _ _ _ ?_) ?_
    · intro y; exact View.cover_of_tiledL (s := S1x80) _ S1x80.size (by sl_kernel_rfl) y
    frame_out
    rfl
  isplitl [H12]
  · iexists _; isplitr
    swap; · iexact H12
    ipureintro
    refine Eq.trans (View.read_writes_eq_canon _ _ _ ?_) ?_
    · intro y; exact View.cover_of_tiledL (s := S1x80) _ S1x80.size (by sl_kernel_rfl) y
    frame_out
    rfl
  isplitl [HS0]
  · iexists _; isplitr
    swap; · iexact HS0
    ipureintro
    refine Eq.trans (View.read_writes_eq_canon _ _ _ ?_) ?_
    · intro y; exact View.cover_of_tiledL (s := S80x256) _ S80x256.size (by sl_kernel_rfl) y
    frame_out
    rfl
  isplitl [HS1]
  · iexists _; isplitr
    swap; · iexact HS1
    ipureintro
    refine Eq.trans (View.read_writes_eq_canon _ _ _ ?_) ?_
    · intro y; exact View.cover_of_tiledL (s := S6x80x128) _ S1x80x128.size (by sl_kernel_rfl) y
    frame_out
  iexists _; isplitr
  swap; · iexact HS2
  ipureintro
  refine Eq.trans (View.read_writes_eq_canon _ _ _ ?_) ?_
  · intro y; exact View.cover_of_tiledL (s := S4x32x128) _ S1x32x128.size (by sl_kernel_rfl) y
  frame_out

set_option maxHeartbeats 2000000 in
/-- The opening at any other point: what the queries gave is kept. -/
theorem open_later (hc : ¬ isFirst i) (xo10 : Vec F S80x256 .i8) (xo11 xo12 : Vec F S1x80 .f32) (xs0 : Vec F S80x256 .bf16) (xs1 : Vec F S6x80x128 .f32) (E : Set ℕ) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
      ∗ owns (c : Thread nD τ) arg11 fullShare xo10 ∗ owns (c : Thread nD τ) arg12 fullShare xo11 ∗ owns (c : Thread nD τ) arg13 fullShare xo12 ∗ owns (c : Thread nD τ) arg14 fullShare xs0 ∗ owns (c : Thread nD τ) arg15 fullShare xs1 ∗ (∃ d, owns (c : Thread nD τ) arg16 fullShare d))
    ⊢ wp frame (wpE (defs₀ (F := F)) Variants.none c none) E (k0_part4 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16)
      (fun v30 => opened c arg1 arg2 arg3 arg4 arg5 arg6 arg7 arg11 arg12 arg13 arg14 arg15 arg16 x0 x1 x2 x3 x4 x5 x6 xo10 xo11 xo12 xs0 xs1 v30) := by
  simp only [k0_part4_eq_skeleton]; unfold k0_part4_skel
  simp only [k0_part1_eq_skeleton, k0_part2_eq_skeleton, k0_part3_eq_skeleton]
  unfold opened owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f10, %hf10, H10⟩, ⟨%f11, %hf11, H11⟩, ⟨%f12, %hf12, H12⟩, ⟨%fs0, %hfs0, HS0⟩, ⟨%fs1, %hfs1, HS1⟩, ⟨%ds2, %fs2, -, HS2⟩⟩
  obtain rfl := harg1.eq_unread hf0; obtain rfl := harg2.eq_unread hf1; obtain rfl := harg3.eq_unread hf2
  obtain rfl := harg4.eq_unread hf3; obtain rfl := harg5.eq_unread hf4; obtain rfl := harg6.eq_unread hf5
  obtain rfl := harg7.eq_unread hf6
  sl_exec (disch := first | sl_exact hc)
  sl_step
  isplitr
  · ipureintro; exact congrArg (fun X => View.ld X (Rect.unit (s := S8x4096) ![0, 0] S8x256.size inb_S8x4096_S8x256_0_0)) (harg5.read_unread x4)
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H10]
  · iexists _; isplitr; · ipureintro; exact hf10
    iexact H10
  isplitl [H11]
  · iexists _; isplitr; · ipureintro; exact hf11
    iexact H11
  isplitl [H12]
  · iexists _; isplitr; · ipureintro; exact hf12
    iexact H12
  isplitl [HS0]
  · iexists _; isplitr; · ipureintro; exact hfs0
    iexact HS0
  isplitl [HS1]
  · iexists _; isplitr; · ipureintro; exact hfs1
    iexact HS1
  iexists _; isplitr
  swap; · iexact HS2
  ipureintro
  refine Eq.trans (View.read_writes_eq_canon _ _ _ ?_) ?_
  · intro y; exact View.cover_of_tiledL (s := S4x32x128) _ S1x32x128.size (by sl_kernel_rfl) y
  frame_out

end Runs

end Cert.KernelIdeal.Body

end
-- ==== Proof.Body.Chunks.lean ====
/- The sixteen chunks of the kernel body, run once for all points: from what the opening leaves to the pieces each of the
   three large outputs ends with (`chunksRun`: the pieces are what the run finds). -/
module

public import proofs.«01_k».proof.Proof.Body.Opening

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen
open Cert.KernelIdeal.Facts

variable {F : FTy → Type} [FloatOps F]

local notation "𝕄" => MT nD τ sig Unit (Elt F) ℕ (UR sig nD τ) ℕ

set_option maxHeartbeats 3000000 in
/-- The pieces the chunks store into the three large outputs, with the run that stores them: whatever establishes the
    opening's outcome (`hopen`: the words `x4`, the left operand `xs0`, the row planes `xs1`, the column planes `xc`, and
    anything else, `Q`), the body runs to those pieces written and everything else as the opening left it. -/
noncomputable def chunksRun (c : Dev nD) (i : grid0.Coords)
  (arg1 : Memref sig .tc .vmem S80x256 .f32) (harg1 : arg1.IsWhole)
  (arg2 : Memref sig .tc .vmem S1x256 .f32) (harg2 : arg2.IsWhole)
  (arg3 : Memref sig .tc .vmem S256x256 .f32) (harg3 : arg3.IsWhole)
  (arg4 : Memref sig .tc .vmem S80x256 .f32) (harg4 : arg4.IsWhole)
  (arg5 : Memref sig .tc .vmem S8x4096 .i32) (harg5 : arg5.IsWhole)
  (arg6 : Memref sig .tc .vmem S32x128 .f32) (harg6 : arg6.IsWhole)
  (arg7 : Memref sig .tc .vmem S32x128 .f32) (harg7 : arg7.IsWhole)
  (arg8 : Memref sig .tc .vmem S80x4096 .f32) (harg8 : arg8.IsWhole)
  (arg9 : Memref sig .tc .vmem S80x4096 .f32) (harg9 : arg9.IsWhole)
  (arg10 : Memref sig .tc .vmem S80x4096 .f32) (harg10 : arg10.IsWhole)
  (arg11 : Memref sig .tc .vmem S80x256 .i8) (harg11 : arg11.IsWhole)
  (arg12 : Memref sig .tc .vmem S1x80 .f32) (harg12 : arg12.IsWhole)
  (arg13 : Memref sig .tc .vmem S1x80 .f32) (harg13 : arg13.IsWhole)
  (arg14 : Memref sig .tc .vmem S80x256 .bf16) (harg14 : arg14.IsWhole)
  (arg15 : Memref sig .tc .vmem S6x80x128 .f32) (harg15 : arg15.IsWhole)
  (arg16 : Memref sig .tc .vmem S4x32x128 .f32) (harg16 : arg16.IsWhole)
    (x4 : Vec F S8x4096 .i32) (xs0 : Vec F S80x256 .bf16) (xs1 : Vec F S6x80x128 .f32) (xc : Vec F S4x32x128 .f32) :
    Σ' (L7 : List (View.Piece (Elt F) S80x4096 .f32)), Σ' (L8 : List (View.Piece (Elt F) S80x4096 .f32)),
      { L9 : List (View.Piece (Elt F) S80x4096 .f32) //
      ∀ (E : Set ℕ) (R Q : sProp 𝕄)
        (hopen : R ⊢ wp frame (wpE (defs₀ (F := F)) Variants.none c none) E (k0_part4 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16)
          (fun v30 => iprop(⌜v30 = words0 x4⌝ ∗ owns (c : Thread nD τ) arg5 fullShare x4 ∗ owns (c : Thread nD τ) arg14 fullShare xs0 ∗ owns (c : Thread nD τ) arg15 fullShare xs1 ∗ owns (c : Thread nD τ) arg16 fullShare xc ∗ Q)))
        (K : PUnit → sProp 𝕄),
        iprop(R ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg5 fullShare x4 ∗ owns (c : Thread nD τ) arg14 fullShare xs0 ∗ owns (c : Thread nD τ) arg15 fullShare xs1 ∗ owns (c : Thread nD τ) arg16 fullShare xc ∗ Q
              ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9)) -∗ K ⟨⟩))
          ⊢ wp frame (wpE (defs₀ (F := F)) Variants.none c none) E (cc0_rabitq_estimate i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, fun E R Q hopen K => ?run⟩
  case run =>
    simp only [cc0_rabitq_estimate_eq_skeleton]; unfold cc0_rabitq_estimate_skel
    simp only [k0_part80_eq_skeleton]; unfold k0_part80_skel
    rw [Prog.bind_assoc]
    iintro ⟨HR, ⟨%d7, H7⟩, ⟨%d8, H8⟩, ⟨%d9, H9⟩, Hk⟩
    iapply (exec_cut frame _ E hopen) $$ [HR]
    · iexact HR
    simp only [k0_part5_eq_skeleton, k0_part6_eq_skeleton, k0_part7_eq_skeleton, k0_part8_eq_skeleton, k0_part9_eq_skeleton,
      k0_part10_eq_skeleton, k0_part11_eq_skeleton, k0_part12_eq_skeleton, k0_part13_eq_skeleton,
      k0_part14_eq_skeleton, k0_part15_eq_skeleton, k0_part16_eq_skeleton, k0_part17_eq_skeleton,
      k0_part18_eq_skeleton, k0_part19_eq_skeleton, k0_part20_eq_skeleton, k0_part21_eq_skeleton,
      k0_part22_eq_skeleton, k0_part23_eq_skeleton, k0_part24_eq_skeleton, k0_part25_eq_skeleton,
      k0_part26_eq_skeleton, k0_part27_eq_skeleton, k0_part28_eq_skeleton, k0_part29_eq_skeleton,
      k0_part30_eq_skeleton, k0_part31_eq_skeleton, k0_part32_eq_skeleton, k0_part33_eq_skeleton,
      k0_part34_eq_skeleton, k0_part35_eq_skeleton, k0_part36_eq_skeleton, k0_part37_eq_skeleton,
      k0_part38_eq_skeleton, k0_part39_eq_skeleton, k0_part40_eq_skeleton, k0_part41_eq_skeleton,
      k0_part42_eq_skeleton, k0_part43_eq_skeleton, k0_part44_eq_skeleton, k0_part45_eq_skeleton,
      k0_part46_eq_skeleton, k0_part47_eq_skeleton, k0_part48_eq_skeleton, k0_part49_eq_skeleton,
      k0_part50_eq_skeleton, k0_part51_eq_skeleton, k0_part52_eq_skeleton, k0_part53_eq_skeleton,
      k0_part54_eq_skeleton, k0_part55_eq_skeleton, k0_part56_eq_skeleton, k0_part57_eq_skeleton,
      k0_part58_eq_skeleton, k0_part59_eq_skeleton, k0_part60_eq_skeleton, k0_part61_eq_skeleton,
      k0_part62_eq_skeleton, k0_part63_eq_skeleton, k0_part64_eq_skeleton, k0_part65_eq_skeleton,
      k0_part66_eq_skeleton, k0_part67_eq_skeleton, k0_part68_eq_skeleton, k0_part69_eq_skeleton,
      k0_part70_eq_skeleton, k0_part71_eq_skeleton, k0_part72_eq_skeleton, k0_part73_eq_skeleton,
      k0_part74_eq_skeleton, k0_part75_eq_skeleton, k0_part76_eq_skeleton, k0_part77_eq_skeleton,
      k0_part78_eq_skeleton, k0_part79_eq_skeleton, k0_part81_eq_skeleton]
    unfold owns
    iintro %v30 ⟨%hv, ⟨%f4, %hf4, H4⟩, ⟨%fs0, %hfs0, HS0⟩, ⟨%fs1, %hfs1, HS1⟩, ⟨%fs2, %hfs2, HS2⟩, HQ⟩
    subst hv
    icases H7 with ⟨%f7, -, H7⟩
    icases H8 with ⟨%f8, -, H8⟩
    icases H9 with ⟨%f9, -, H9⟩
    obtain rfl := harg5.eq_unread hf4; obtain rfl := harg14.eq_unread hfs0
    obtain rfl := harg15.eq_unread hfs1; obtain rfl := harg16.eq_unread hfs2
    sl_exec
    sl_step
    iapply Hk
    isplitl [H4]
    · iexists _; isplitr; · ipureintro; exact harg5.read_unread _
      iexact H4
    isplitl [HS0]
    · iexists _; isplitr; · ipureintro; exact harg14.read_unread _
      iexact HS0
    isplitl [HS1]
    · iexists _; isplitr; · ipureintro; exact harg15.read_unread _
      iexact HS1
    isplitl [HS2]
    · iexists _; isplitr; · ipureintro; exact harg16.read_unread _
      iexact HS2
    isplitl [HQ]; · iexact HQ
    isplitl [H7]; · iexists _; iexact H7
    isplitl [H8]; · iexists _; iexact H8
    iexists _; iexact H9

end Cert.KernelIdeal.Body

end
-- ==== Proof.Body.Tile.lean ====
/- One tile of a chunk, read at an index over the reals: the product with the unpacked bits, the count of set bits, and
   the estimate, the error bound and the distance built on them. -/
module

public import proofs.«01_k».proof.Proof.Gen.KernelIdeal.Skeleton
public import proofs.«01_k».proof.Proof.Gen.KernelIdeal.Frame
public import Idealize.ShloMosaic.Lib.Pipeline.ValueKit
public import Idealize.ShloMosaic.Lib.Pointwise
public import Idealize.ShloMosaic.Lib.BitcastPair

@[expose] public section

set_option maxRecDepth 16384

noncomputable section

namespace Cert.KernelIdeal.Body

open Idealize.ShloMosaic Idealize.ShloMosaic.TcCoe Idealize.ShloMosaic.Tactic
open Cert.KernelIdeal.Gen
open Cert.KernelIdeal.Facts

/-! ## The bits of a word as the numbers 2 and 0 -/

/-- Bits 14 and 30 of each word, read as a pair of sixteen-bit floats. -/
def grpOf (v : IVec S8x256 32) : FVec Ideal S16x256 .bf16 :=
  bitcastToFloat .bf16 (bitcast S16x256 16 (andi v (broadcast S8x256 1073758208#32)) bitcasts_S8x256_w32_S16x256_w16)

/-- A half of a masked word holds bit 14 of the half alone. -/
theorem half_masked (x : BitVec 32) (p : ℕ) (hp : p < 2) :
    (x &&& 1073758208#32).extractLsb' (16 * p) 16 = if x.getLsbD (14 + 16 * p) then 0x4000#16 else 0#16 := by
  apply BitVec.eq_of_getLsbD_eq
  intro i hi
  interval_cases p <;> interval_cases i <;> split <;> simp_all

theorem ofBits_two : Ideal.ofBits .bf16 0x4000#16 = 2 := by
  simp [Ideal.ofBits, Ideal.ieee]
  rw [← EReal.coe_mul]
  norm_num
  rfl

theorem grp_at (v : IVec S8x256 32) (r : Fin 16) (k : Fin 256) :
    grpOf v (ix2 r k) = if (v (ix2 (⟨r.val / 2, by omega⟩ : Fin 8) k)).getLsbD (14 + 16 * (r.val % 2)) then 2 else 0 := by
  have e : grpOf v (ix2 r k) = Ideal.ofBits .bf16
      (bitcast S16x256 16 (andi v (broadcast S8x256 1073758208#32)) bitcasts_S8x256_w32_S16x256_w16 (ix2 r k)) := rfl
  rw [e, bitcast_32_16]
  have ei : (bitcasts_S8x256_w32_S16x256_w16 : Shape.Bitcasts S8x256 32 S16x256 16).srcIdx (ix2 r k) (Shape.row S16x256 (ix2 r k) / 2)
      (fun a ha => by have := (bitcasts_S8x256_w32_S16x256_w16 : Shape.Bitcasts S8x256 32 S16x256 16).pos_lt (ix2 r k) 0 (by decide) a ha; omega)
      = ix2 (⟨r.val / 2, by omega⟩ : Fin 8) k := by
    funext a
    fin_cases a <;> rfl
  rw [ei]
  have hr : Shape.row S16x256 (ix2 r k) = r.val := rfl
  rw [hr]
  have ea : andi v (broadcast S8x256 1073758208#32) (ix2 (⟨r.val / 2, by omega⟩ : Fin 8) k)
      = v (ix2 (⟨r.val / 2, by omega⟩ : Fin 8) k) &&& 1073758208#32 := rfl
  rw [ea, half_masked _ _ (by omega)]
  split
  · exact ofBits_two
  · exact Ideal.ofBits_zero .bf16

/-- The sixteen groups of a chunk's words. -/
def groups (w : IVec S8x256 32) : Fin 16 → (S16x256.Idx → Ideal .bf16) :=
  ![grpOf (shli w (broadcast S8x256 14#32)),
    grpOf (shli w (broadcast S8x256 13#32)),
    grpOf (shli w (broadcast S8x256 12#32)),
    grpOf (shli w (broadcast S8x256 11#32)),
    grpOf (shli w (broadcast S8x256 10#32)),
    grpOf (shli w (broadcast S8x256 9#32)),
    grpOf (shli w (broadcast S8x256 8#32)),
    grpOf (shli w (broadcast S8x256 7#32)),
    grpOf (shli w (broadcast S8x256 6#32)),
    grpOf (shli w (broadcast S8x256 5#32)),
    grpOf (shli w (broadcast S8x256 4#32)),
    grpOf (shli w (broadcast S8x256 3#32)),
    grpOf (shli w (broadcast S8x256 2#32)),
    grpOf (shli w (broadcast S8x256 1#32)),
    grpOf (shli w (broadcast S8x256 0#32)),
    grpOf (shrui w (broadcast S8x256 1#32))]

/-- Bit `d` of a column in the order the groups are laid out, as 2 or 0. -/
def bitv {n : ℕ} (x : Fin 8 → Fin n → BitVec 32) (d : Fin 256) (k : Fin n) : EReal :=
  if (x (⟨d.val % 16 / 2, by omega⟩ : Fin 8) k).getLsbD (d.val / 16 + 16 * (d.val % 2)) then 2 else 0

theorem groups_at (w : IVec S8x256 32) (n r : Fin 16) (k : Fin 256) :
    groups w n (ix2 r k) = if (w (ix2 (⟨r.val / 2, by omega⟩ : Fin 8) k)).getLsbD (n.val + 16 * (r.val % 2)) then 2 else 0 := by
  have hp : r.val % 2 = 0 ∨ r.val % 2 = 1 := by omega
  fin_cases n <;> refine (grp_at _ r k).trans ?_ <;> congr 1 <;> rcases hp with hp | hp <;> rw [hp] <;>
    simp [shli, shrui, IntOp.shli, IntOp.shrui, broadcast]

/-- The unpacked bits of a chunk's words. -/
def bitsOf (w : IVec S8x256 32) : FVec Ideal S256x256 .bf16 :=
  concatenate S256x256 0 (α := Ideal .bf16) [⟨S16x256, grpOf (shli w (broadcast S8x256 14#32))⟩,
    ⟨S16x256, grpOf (shli w (broadcast S8x256 13#32))⟩,
    ⟨S16x256, grpOf (shli w (broadcast S8x256 12#32))⟩,
    ⟨S16x256, grpOf (shli w (broadcast S8x256 11#32))⟩,
    ⟨S16x256, grpOf (shli w (broadcast S8x256 10#32))⟩,
    ⟨S16x256, grpOf (shli w (broadcast S8x256 9#32))⟩,
    ⟨S16x256, grpOf (shli w (broadcast S8x256 8#32))⟩,
    ⟨S16x256, grpOf (shli w (broadcast S8x256 7#32))⟩,
    ⟨S16x256, grpOf (shli w (broadcast S8x256 6#32))⟩,
    ⟨S16x256, grpOf (shli w (broadcast S8x256 5#32))⟩,
    ⟨S16x256, grpOf (shli w (broadcast S8x256 4#32))⟩,
    ⟨S16x256, grpOf (shli w (broadcast S8x256 3#32))⟩,
    ⟨S16x256, grpOf (shli w (broadcast S8x256 2#32))⟩,
    ⟨S16x256, grpOf (shli w (broadcast S8x256 1#32))⟩,
    ⟨S16x256, grpOf (shli w (broadcast S8x256 0#32))⟩,
    ⟨S16x256, grpOf (shrui w (broadcast S8x256 1#32))⟩] concatenates_S16x256_S16x256_S16x256_S16x256_S16x256_S16x256_S16x256_S16x256_S16x256_S16x256_S16x256_S16x256_S16x256_S16x256_S16x256_S16x256_S256x256_d0

theorem bits_at (w : IVec S8x256 32) (d k : Fin 256) : bitsOf w (ix2 d k) = bitv (fun a b => w (ix2 a b)) d k := by
  refine Eq.trans (concatenate_ofFn_apply (s₁ := S16x256) (t := S256x256) 0 (groups w)
    concatenates_S16x256_S16x256_S16x256_S16x256_S16x256_S16x256_S16x256_S16x256_S16x256_S16x256_S16x256_S16x256_S16x256_S16x256_S16x256_S16x256_S256x256_d0
    rfl 16 rfl (ix2 d k) (⟨d.val / 16, by omega⟩ : Fin 16) rfl (ix2 (⟨d.val % 16, by omega⟩ : Fin 16) k) rfl ?_) ?_
  · intro b hb
    fin_cases b
    · exact absurd rfl hb
    · rfl
  · rw [groups_at]
    simp only [bitv]
    have : d.val % 16 % 2 = d.val % 2 := by omega
    rw [this]

/-! ## The product and the count -/

/-- A chunk's product. -/
def dotOf (w : IVec S8x256 32) (l : FVec Ideal S80x256 .bf16) : FVec Ideal S80x256 .f32 :=
  matmul dot_S80x256_S256x256_S80x256_1_0_0_1_n_n none l (bitsOf w) (constant S80x256 .f32 0x00000000#32)

theorem dot_at (w : IVec S8x256 32) (l : FVec Ideal S80x256 .bf16) (j : Fin 80) (k : Fin 256) :
    dotOf w l (ix2 j k) = ∑ d : Fin 256, l (ix2 j d) * bitv (fun a b => w (ix2 a b)) d k := by
  have h := bits_at w
  generalize hb : bitsOf w = B at h
  simp only [dotOf, hb]
  pointwise
  simp only [h]

/-- A chunk's count of set bits. -/
def popOf (w : IVec S8x256 32) : FVec Ideal S1x256 .f32 :=
  sitofp .f32 (shapeCast S1x256 (multiReductionI .add [0] S256 (ctpop w) 0#32 reduces_S8x256_S256 rfl) shapeCasts_S256_S1x256)

/-- The number of set bits of a column. -/
def popv {n : ℕ} (x : Fin 8 → Fin n → BitVec 32) (k : Fin n) : EReal :=
  FloatOps.sitofp (F := Ideal) .f32 (Finset.fold IntOp.addi 0#32 (fun a : Fin 8 => IntOp.ctpop (x a k)) Finset.univ)

theorem pop_at (w : IVec S8x256 32) (u : Fin 1) (k : Fin 256) :
    popOf w (ix2 u k) = popv (fun a b => w (ix2 a b)) k := by
  simp only [popOf]
  pointwise
  rfl

/-! ## The tile of lanes from 0 on -/

/-- The estimate of the inner product on a tile. -/
def ipT0 (w : IVec S8x256 32) (l : FVec Ideal S80x256 .bf16) (r0 r1 r2 : FVec Ideal S1x80x128 .f32) (q0 : FVec Ideal S1x1x128 .f32) :
    FVec Ideal S80x128 .f32 :=
  mulf (subf (addf
      (mulf (shapeCast S80x128 r0 shapeCasts_S1x80x128_S80x128) (extractStridedSlice S80x128 ![0, 0] (dotOf w l) slices_S80x256_o0_0_S80x128))
      (mulf (shapeCast S80x128 r1 shapeCasts_S1x80x128_S80x128)
        (broadcastTo S80x128 (extractStridedSlice S1x128 ![0, 0] (popOf w) slices_S1x256_o0_0_S1x128) broadcasts_S1x128_S80x128)))
      (shapeCast S80x128 r2 shapeCasts_S1x80x128_S80x128))
    (broadcastTo S80x128 (shapeCast S1x128 q0 shapeCasts_S1x1x128_S1x128) broadcasts_S1x128_S80x128)

theorem ipT0_at (w : IVec S8x256 32) (l : FVec Ideal S80x256 .bf16) (r0 r1 r2 : FVec Ideal S1x80x128 .f32) (q0 : FVec Ideal S1x1x128 .f32)
    (j : Fin 80) (k : Fin 128) :
    ipT0 w l r0 r1 r2 q0 (ix2 j k) =
      (r0 (ix3 0 j k) * (∑ d : Fin 256, l (ix2 j d) * bitv (fun a b => w (ix2 a b)) d (⟨0 + k.val, by omega⟩ : Fin 256))
        + r1 (ix3 0 j k) * popv (fun a b => w (ix2 a b)) (⟨0 + k.val, by omega⟩ : Fin 256) - r2 (ix3 0 j k)) * q0 (ix3 0 0 k) := by
  have hd := dot_at w l
  have hp := pop_at w
  simp only [ipT0]
  generalize dotOf w l = D at hd ⊢
  generalize popOf w = P at hp ⊢
  pointwise
  simp only [hd, hp]

/-! ## The tile of lanes from 128 on -/

/-- The estimate of the inner product on a tile. -/
def ipT128 (w : IVec S8x256 32) (l : FVec Ideal S80x256 .bf16) (r0 r1 r2 : FVec Ideal S1x80x128 .f32) (q0 : FVec Ideal S1x1x128 .f32) :
    FVec Ideal S80x128 .f32 :=
  mulf (subf (addf
      (mulf (shapeCast S80x128 r0 shapeCasts_S1x80x128_S80x128) (extractStridedSlice S80x128 ![0, 128] (dotOf w l) slices_S80x256_o0_128_S80x128))
      (mulf (shapeCast S80x128 r1 shapeCasts_S1x80x128_S80x128)
        (broadcastTo S80x128 (extractStridedSlice S1x128 ![0, 128] (popOf w) slices_S1x256_o0_128_S1x128) broadcasts_S1x128_S80x128)))
      (shapeCast S80x128 r2 shapeCasts_S1x80x128_S80x128))
    (broadcastTo S80x128 (shapeCast S1x128 q0 shapeCasts_S1x1x128_S1x128) broadcasts_S1x128_S80x128)

theorem ipT128_at (w : IVec S8x256 32) (l : FVec Ideal S80x256 .bf16) (r0 r1 r2 : FVec Ideal S1x80x128 .f32) (q0 : FVec Ideal S1x1x128 .f32)
    (j : Fin 80) (k : Fin 128) :
    ipT128 w l r0 r1 r2 q0 (ix2 j k) =
      (r0 (ix3 0 j k) * (∑ d : Fin 256, l (ix2 j d) * bitv (fun a b => w (ix2 a b)) d (⟨128 + k.val, by omega⟩ : Fin 256))
        + r1 (ix3 0 j k) * popv (fun a b => w (ix2 a b)) (⟨128 + k.val, by omega⟩ : Fin 256) - r2 (ix3 0 j k)) * q0 (ix3 0 0 k) := by
  have hd := dot_at w l
  have hp := pop_at w
  simp only [ipT128]
  generalize dotOf w l = D at hd ⊢
  generalize popOf w = P at hp ⊢
  pointwise
  simp only [hd, hp]

/-- The error bound on a tile. -/
def boundT (r3 : FVec Ideal S1x80x128 .f32) (q3 : FVec Ideal S1x1x128 .f32) : FVec Ideal S80x128 .f32 :=
  mulf (shapeCast S80x128 r3 shapeCasts_S1x80x128_S80x128)
    (broadcastTo S80x128 (shapeCast S1x128 q3 shapeCasts_S1x1x128_S1x128) broadcasts_S1x128_S80x128)

theorem boundT_at (r3 : FVec Ideal S1x80x128 .f32) (q3 : FVec Ideal S1x1x128 .f32) (j : Fin 80) (k : Fin 128) :
    boundT r3 q3 (ix2 j k) = r3 (ix3 0 j k) * q3 (ix3 0 0 k) := by
  simp only [boundT]
  pointwise

/-- The distance on a tile, from the estimate. -/
def distT (r4 r5 : FVec Ideal S1x80x128 .f32) (q1 q2 : FVec Ideal S1x1x128 .f32) (ip : FVec Ideal S80x128 .f32) : FVec Ideal S80x128 .f32 :=
  subf (addf (broadcastTo S80x128 (shapeCast S1x128 q2 shapeCasts_S1x1x128_S1x128) broadcasts_S1x128_S80x128)
      (shapeCast S80x128 r4 shapeCasts_S1x80x128_S80x128))
    (mulf (mulf (shapeCast S80x128 r5 shapeCasts_S1x80x128_S80x128)
      (broadcastTo S80x128 (shapeCast S1x128 q1 shapeCasts_S1x1x128_S1x128) broadcasts_S1x128_S80x128)) ip)

theorem distT_at (r4 r5 : FVec Ideal S1x80x128 .f32) (q1 q2 : FVec Ideal S1x1x128 .f32) (ip : FVec Ideal S80x128 .f32) (j : Fin 80) (k : Fin 128) :
    distT r4 r5 q1 q2 ip (ix2 j k) = q2 (ix3 0 0 k) + r4 (ix3 0 j k) - r5 (ix3 0 j k) * q1 (ix3 0 0 k) * ip (ix2 j k) := by
  simp only [distT]
  pointwise

/-! ## A column of the block -/

section Column
variable (x4 : IVec S8x4096 32) (l : FVec Ideal S80x256 .bf16) (row : FVec Ideal S6x80x128 .f32) (col : FVec Ideal S4x32x128 .f32)

/-- The estimate of the inner product at a query and a column of the block. -/
def ipAt (j : Fin 80) (k : Fin 4096) : EReal :=
  (row (ix3 0 j (⟨k.val % 128, by omega⟩ : Fin 128)) * (∑ d : Fin 256, l (ix2 j d) * bitv (fun a b => x4 (ix2 a b)) d k)
    + row (ix3 1 j (⟨k.val % 128, by omega⟩ : Fin 128)) * popv (fun a b => x4 (ix2 a b)) k
    - row (ix3 2 j (⟨k.val % 128, by omega⟩ : Fin 128))) * col (ix3 0 (⟨k.val / 128, by omega⟩ : Fin 32) (⟨k.val % 128, by omega⟩ : Fin 128))

/-- The error bound. -/
def boundAt (j : Fin 80) (k : Fin 4096) : EReal :=
  row (ix3 3 j (⟨k.val % 128, by omega⟩ : Fin 128)) * col (ix3 3 (⟨k.val / 128, by omega⟩ : Fin 32) (⟨k.val % 128, by omega⟩ : Fin 128))

/-- The distance. -/
def distAt (j : Fin 80) (k : Fin 4096) : EReal :=
  col (ix3 2 (⟨k.val / 128, by omega⟩ : Fin 32) (⟨k.val % 128, by omega⟩ : Fin 128)) + row (ix3 4 j (⟨k.val % 128, by omega⟩ : Fin 128))
    - row (ix3 5 j (⟨k.val % 128, by omega⟩ : Fin 128)) * col (ix3 1 (⟨k.val / 128, by omega⟩ : Fin 32) (⟨k.val % 128, by omega⟩ : Fin 128))
      * ipAt x4 l row col j k

theorem ipT0_eq (w : IVec S8x256 32) (r0 r1 r2 : FVec Ideal S1x80x128 .f32) (q0 : FVec Ideal S1x1x128 .f32) (r : ℕ) (hr : r < 32)
    (y : S80x4096.Idx) (x : S80x128.Idx)
    (h0 : (y 0).val = (x 0).val) (h1 : (y 1).val = 128 * r + (x 1).val)
    (hw : ∀ (a : Fin 8) (k : Fin 128), w (ix2 a (⟨0 + k.val, by omega⟩ : Fin 256)) = x4 (ix2 a (⟨128 * r + k.val, by omega⟩ : Fin 4096)))
    (hr0 : ∀ (j : Fin 80) (k : Fin 128), r0 (ix3 0 j k) = row (ix3 0 j k))
    (hr1 : ∀ (j : Fin 80) (k : Fin 128), r1 (ix3 0 j k) = row (ix3 1 j k))
    (hr2 : ∀ (j : Fin 80) (k : Fin 128), r2 (ix3 0 j k) = row (ix3 2 j k))
    (hq : ∀ k : Fin 128, q0 (ix3 0 0 k) = col (ix3 0 (⟨r, hr⟩ : Fin 32) k)) :
    ipT0 w l r0 r1 r2 q0 x = ipAt x4 l row col (y 0) (y 1) := by
  obtain ⟨j, k, rfl⟩ : ∃ (j : Fin 80) (k : Fin 128), x = ix2 j k := ⟨x 0, x 1, eq_ix2 x⟩
  have hy0 : y 0 = j := Fin.ext h0
  have hk : (ix2 j k : S80x128.Idx) 1 = k := rfl
  have hy1 : (y 1 : Fin 4096) = (⟨128 * r + k.val, by omega⟩ : Fin 4096) := Fin.ext h1
  rw [hy0, hy1, ipT0_at, hr0, hr1, hr2, hq]
  have hb : ∀ d : Fin 256, bitv (fun a b => w (ix2 a b)) d (⟨0 + k.val, by omega⟩ : Fin 256)
      = bitv (fun a b => x4 (ix2 a b)) d (⟨128 * r + k.val, by omega⟩ : Fin 4096) := fun d => by simp only [bitv, hw]
  have hp : popv (fun a b => w (ix2 a b)) (⟨0 + k.val, by omega⟩ : Fin 256)
      = popv (fun a b => x4 (ix2 a b)) (⟨128 * r + k.val, by omega⟩ : Fin 4096) := by simp only [popv, hw]
  have em : (128 * r + k.val) % 128 = k.val := by omega
  have ed : (128 * r + k.val) / 128 = r := by omega
  simp only [hb, hp, ipAt, em, ed]

theorem ipT128_eq (w : IVec S8x256 32) (r0 r1 r2 : FVec Ideal S1x80x128 .f32) (q0 : FVec Ideal S1x1x128 .f32) (r : ℕ) (hr : r < 32)
    (y : S80x4096.Idx) (x : S80x128.Idx)
    (h0 : (y 0).val = (x 0).val) (h1 : (y 1).val = 128 * r + (x 1).val)
    (hw : ∀ (a : Fin 8) (k : Fin 128), w (ix2 a (⟨128 + k.val, by omega⟩ : Fin 256)) = x4 (ix2 a (⟨128 * r + k.val, by omega⟩ : Fin 4096)))
    (hr0 : ∀ (j : Fin 80) (k : Fin 128), r0 (ix3 0 j k) = row (ix3 0 j k))
    (hr1 : ∀ (j : Fin 80) (k : Fin 128), r1 (ix3 0 j k) = row (ix3 1 j k))
    (hr2 : ∀ (j : Fin 80) (k : Fin 128), r2 (ix3 0 j k) = row (ix3 2 j k))
    (hq : ∀ k : Fin 128, q0 (ix3 0 0 k) = col (ix3 0 (⟨r, hr⟩ : Fin 32) k)) :
    ipT128 w l r0 r1 r2 q0 x = ipAt x4 l row col (y 0) (y 1) := by
  obtain ⟨j, k, rfl⟩ : ∃ (j : Fin 80) (k : Fin 128), x = ix2 j k := ⟨x 0, x 1, eq_ix2 x⟩
  have hy0 : y 0 = j := Fin.ext h0
  have hk : (ix2 j k : S80x128.Idx) 1 = k := rfl
  have hy1 : (y 1 : Fin 4096) = (⟨128 * r + k.val, by omega⟩ : Fin 4096) := Fin.ext h1
  rw [hy0, hy1, ipT128_at, hr0, hr1, hr2, hq]
  have hb : ∀ d : Fin 256, bitv (fun a b => w (ix2 a b)) d (⟨128 + k.val, by omega⟩ : Fin 256)
      = bitv (fun a b => x4 (ix2 a b)) d (⟨128 * r + k.val, by omega⟩ : Fin 4096) := fun d => by simp only [bitv, hw]
  have hp : popv (fun a b => w (ix2 a b)) (⟨128 + k.val, by omega⟩ : Fin 256)
      = popv (fun a b => x4 (ix2 a b)) (⟨128 * r + k.val, by omega⟩ : Fin 4096) := by simp only [popv, hw]
  have em : (128 * r + k.val) % 128 = k.val := by omega
  have ed : (128 * r + k.val) / 128 = r := by omega
  simp only [hb, hp, ipAt, em, ed]

theorem boundT_eq (r3 : FVec Ideal S1x80x128 .f32) (q3 : FVec Ideal S1x1x128 .f32) (r : ℕ) (hr : r < 32)
    (y : S80x4096.Idx) (x : S80x128.Idx)
    (h0 : (y 0).val = (x 0).val) (h1 : (y 1).val = 128 * r + (x 1).val)
    (hr3 : ∀ (j : Fin 80) (k : Fin 128), r3 (ix3 0 j k) = row (ix3 3 j k))
    (hq3 : ∀ k : Fin 128, q3 (ix3 0 0 k) = col (ix3 3 (⟨r, hr⟩ : Fin 32) k)) :
    boundT r3 q3 x = boundAt row col (y 0) (y 1) := by
  obtain ⟨j, k, rfl⟩ : ∃ (j : Fin 80) (k : Fin 128), x = ix2 j k := ⟨x 0, x 1, eq_ix2 x⟩
  have hy0 : y 0 = j := Fin.ext h0
  have hy1 : (y 1 : Fin 4096) = (⟨128 * r + k.val, by omega⟩ : Fin 4096) := Fin.ext h1
  rw [hy0, hy1, boundT_at, hr3, hq3]
  have em : (128 * r + k.val) % 128 = k.val := by omega
  have ed : (128 * r + k.val) / 128 = r := by omega
  simp only [boundAt, em, ed]

theorem distT_eq (r4 r5 : FVec Ideal S1x80x128 .f32) (q1 q2 : FVec Ideal S1x1x128 .f32) (ip : FVec Ideal S80x128 .f32) (r : ℕ) (hr : r < 32)
    (y : S80x4096.Idx) (x : S80x128.Idx)
    (h0 : (y 0).val = (x 0).val) (h1 : (y 1).val = 128 * r + (x 1).val)
    (hr4 : ∀ (j : Fin 80) (k : Fin 128), r4 (ix3 0 j k) = row (ix3 4 j k))
    (hr5 : ∀ (j : Fin 80) (k : Fin 128), r5 (ix3 0 j k) = row (ix3 5 j k))
    (hq1 : ∀ k : Fin 128, q1 (ix3 0 0 k) = col (ix3 1 (⟨r, hr⟩ : Fin 32) k))
    (hq2 : ∀ k : Fin 128, q2 (ix3 0 0 k) = col (ix3 2 (⟨r, hr⟩ : Fin 32) k))
    (hip : ip x = ipAt x4 l row col (y 0) (y 1)) :
    distT r4 r5 q1 q2 ip x = distAt x4 l row col (y 0) (y 1) := by
  obtain ⟨j, k, rfl⟩ : ∃ (j : Fin 80) (k : Fin 128), x = ix2 j k := ⟨x 0, x 1, eq_ix2 x⟩
  have hy0 : y 0 = j := Fin.ext h0
  have hy1 : (y 1 : Fin 4096) = (⟨128 * r + k.val, by omega⟩ : Fin 4096) := Fin.ext h1
  rw [distT_at, hip, hr4, hr5, hq1, hq2, hy0, hy1]
  have em : (128 * r + k.val) % 128 = k.val := by omega
  have ed : (128 * r + k.val) / 128 = r := by omega
  simp only [distAt, em, ed]

end Column

end Cert.KernelIdeal.Body

end
-- ==== Proof.Body.ChunkValues.lean ====
/- What the chunks store, at every index of the three large outputs. -/
module

public import proofs.«01_k».proof.Proof.Body.Chunks
public import proofs.«01_k».proof.Proof.Body.Tile

@[expose] public section

set_option maxRecDepth 16384

noncomputable section

namespace Cert.KernelIdeal.Body

open Idealize.ShloMosaic Idealize.ShloMosaic.TcCoe Idealize.ShloMosaic.Tactic
open Cert.KernelIdeal.Gen
open Cert.KernelIdeal.Facts

set_option maxHeartbeats 3000000 in
/-- The estimate of the inner product. -/
theorem ip_canon (c : Dev nD) (i : grid0.Coords)
  (arg1 : Memref sig .tc .vmem S80x256 .f32) (harg1 : arg1.IsWhole)
  (arg2 : Memref sig .tc .vmem S1x256 .f32) (harg2 : arg2.IsWhole)
  (arg3 : Memref sig .tc .vmem S256x256 .f32) (harg3 : arg3.IsWhole)
  (arg4 : Memref sig .tc .vmem S80x256 .f32) (harg4 : arg4.IsWhole)
  (arg5 : Memref sig .tc .vmem S8x4096 .i32) (harg5 : arg5.IsWhole)
  (arg6 : Memref sig .tc .vmem S32x128 .f32) (harg6 : arg6.IsWhole)
  (arg7 : Memref sig .tc .vmem S32x128 .f32) (harg7 : arg7.IsWhole)
  (arg8 : Memref sig .tc .vmem S80x4096 .f32) (harg8 : arg8.IsWhole)
  (arg9 : Memref sig .tc .vmem S80x4096 .f32) (harg9 : arg9.IsWhole)
  (arg10 : Memref sig .tc .vmem S80x4096 .f32) (harg10 : arg10.IsWhole)
  (arg11 : Memref sig .tc .vmem S80x256 .i8) (harg11 : arg11.IsWhole)
  (arg12 : Memref sig .tc .vmem S1x80 .f32) (harg12 : arg12.IsWhole)
  (arg13 : Memref sig .tc .vmem S1x80 .f32) (harg13 : arg13.IsWhole)
  (arg14 : Memref sig .tc .vmem S80x256 .bf16) (harg14 : arg14.IsWhole)
  (arg15 : Memref sig .tc .vmem S6x80x128 .f32) (harg15 : arg15.IsWhole)
  (arg16 : Memref sig .tc .vmem S4x32x128 .f32) (harg16 : arg16.IsWhole)

    (x4 : Vec Ideal S8x4096 .i32) (xs0 : Vec Ideal S80x256 .bf16) (xs1 : Vec Ideal S6x80x128 .f32) (xc : Vec Ideal S4x32x128 .f32)
    (y : S80x4096.Idx) :
    View.canon (chunksRun (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x4 xs0 xs1 xc).2.2.1 y = ipAt x4 xs0 xs1 xc (y 0) (y 1) := by
  unfold chunksRun
  frame_out
  canon_tiles x h
  case piece0 => exact ipT128_eq x4 xs0 xs1 xc _ _ _ _ _ 31 (by omega) y x h0 h1 (by intros; open_payloads; pointwise; exact congrArg (fun q => x4 (ix2 _ q)) (Fin.ext (by dsimp only; omega))) (by intros; pointwise) (by intros; pointwise) (by intros; pointwise) (by intros; pointwise)
  case piece1 => exact ipT0_eq x4 xs0 xs1 xc _ _ _ _ _ 30 (by omega) y x h0 h1 (by intros; open_payloads; pointwise) (by intros; pointwise) (by intros; pointwise) (by intros; pointwise) (by intros; pointwise)
  case piece2 => exact ipT128_eq x4 xs0 xs1 xc _ _ _ _ _ 29 (by omega) y x h0 h1 (by intros; open_payloads; pointwise; exact congrArg (fun q => x4 (ix2 _ q)) (Fin.ext (by dsimp only; omega))) (by intros; pointwise) (by intros; pointwise) (by intros; pointwise) (by intros; pointwise)
  case piece3 => exact ipT0_eq x4 xs0 xs1 xc _ _ _ _ _ 28 (by omega) y x h0 h1 (by intros; open_payloads; pointwise) (by intros; pointwise) (by intros; pointwise) (by intros; pointwise) (by intros; pointwise)
  case piece4 => exact ipT128_eq x4 xs0 xs1 xc _ _ _ _ _ 27 (by omega) y x h0 h1 (by intros; open_payloads; pointwise; exact congrArg (fun q => x4 (ix2 _ q)) (Fin.ext (by dsimp only; omega))) (by intros; pointwise) (by intros; pointwise) (by intros; pointwise) (by intros; pointwise)
  case piece5 => exact ipT0_eq x4 xs0 xs1 xc _ _ _ _ _ 26 (by omega) y x h0 h1 (by intros; open_payloads; pointwise) (by intros; pointwise) (by intros; pointwise) (by intros; pointwise) (by intros; pointwise)
  case piece6 => exact ipT128_eq x4 xs0 xs1 xc _ _ _ _ _ 25 (by omega) y x h0 h1 (by intros; open_payloads; pointwise; exact congrArg (fun q => x4 (ix2 _ q)) (Fin.ext (by dsimp only; omega))) (by intros; pointwise) (by intros; pointwise) (by intros; pointwise) (by intros; pointwise)
  case piece7 => exact ipT0_eq x4 xs0 xs1 xc _ _ _ _ _ 24 (by omega) y x h0 h1 (by intros; open_payloads; pointwise) (by intros; pointwise) (by intros; pointwise) (by intros; pointwise) (by intros; pointwise)
  case piece8 => exact ipT128_eq x4 xs0 xs1 xc _ _ _ _ _ 23 (by omega) y x h0 h1 (by intros; open_payloads; pointwise; exact congrArg (fun q => x4 (ix2 _ q)) (Fin.ext (by dsimp only; omega))) (by intros; pointwise) (by intros; pointwise) (by intros; pointwise) (by intros; pointwise)
  case piece9 => exact ipT0_eq x4 xs0 xs1 xc _ _ _ _ _ 22 (by omega) y x h0 h1 (by intros; open_payloads; pointwise) (by intros; pointwise) (by intros; pointwise) (by intros; pointwise) (by intros; pointwise)
  case piece10 => exact ipT128_eq x4 xs0 xs1 xc _ _ _ _ _ 21 (by omega) y x h0 h1 (by intros; open_payloads; pointwise; exact congrArg (fun q => x4 (ix2 _ q)) (Fin.ext (by dsimp only; omega))) (by intros; pointwise) (by intros; pointwise) (by intros; pointwise) (by intros; pointwise)
  case piece11 => exact ipT0_eq x4 xs0 xs1 xc _ _ _ _ _ 20 (by omega) y x h0 h1 (by intros; open_payloads; pointwise) (by intros; pointwise) (by intros; pointwise) (by intros; pointwise) (by intros; pointwise)
  case piece12 => exact ipT128_eq x4 xs0 xs1 xc _ _ _ _ _ 19 (by omega) y x h0 h1 (by intros; open_payloads; pointwise; exact congrArg (fun q => x4 (ix2 _ q)) (Fin.ext (by dsimp only; omega))) (by intros; pointwise) (by intros; pointwise) (by intros; pointwise) (by intros; pointwise)
  case piece13 => exact ipT0_eq x4 xs0 xs1 xc _ _ _ _ _ 18 (by omega) y x h0 h1 (by intros; open_payloads; pointwise) (by intros; pointwise) (by intros; pointwise) (by intros; pointwise) (by intros; pointwise)
  case piece14 => exact ipT128_eq x4 xs0 xs1 xc _ _ _ _ _ 17 (by omega) y x h0 h1 (by intros; open_payloads; pointwise; exact congrArg (fun q => x4 (ix2 _ q)) (Fin.ext (by dsimp only; omega))) (by intros; pointwise) (by intros; pointwise) (by intros; pointwise) (by intros; pointwise)
  case piece15 => exact ipT0_eq x4 xs0 xs1 xc _ _ _ _ _ 16 (by omega) y x h0 h1 (by intros; open_payloads; pointwise) (by intros; pointwise) (by intros; pointwise) (by intros; pointwise) (by intros; pointwise)
  case piece16 => exact ipT128_eq x4 xs0 xs1 xc _ _ _ _ _ 15 (by omega) y x h0 h1 (by intros; open_payloads; pointwise; exact congrArg (fun q => x4 (ix2 _ q)) (Fin.ext (by dsimp only; omega))) (by intros; pointwise) (by intros; pointwise) (by intros; pointwise) (by intros; pointwise)
  case piece17 => exact ipT0_eq x4 xs0 xs1 xc _ _ _ _ _ 14 (by omega) y x h0 h1 (by intros; open_payloads; pointwise) (by intros; pointwise) (by intros; pointwise) (by intros; pointwise) (by intros; pointwise)
  case piece18 => exact ipT128_eq x4 xs0 xs1 xc _ _ _ _ _ 13 (by omega) y x h0 h1 (by intros; open_payloads; pointwise; exact congrArg (fun q => x4 (ix2 _ q)) (Fin.ext (by dsimp only; omega))) (by intros; pointwise) (by intros; pointwise) (by intros; pointwise) (by intros; pointwise)
  case piece19 => exact ipT0_eq x4 xs0 xs1 xc _ _ _ _ _ 12 (by omega) y x h0 h1 (by intros; open_payloads; pointwise) (by intros; pointwise) (by intros; pointwise) (by intros; pointwise) (by intros; pointwise)
  case piece20 => exact ipT128_eq x4 xs0 xs1 xc _ _ _ _ _ 11 (by omega) y x h0 h1 (by intros; open_payloads; pointwise; exact congrArg (fun q => x4 (ix2 _ q)) (Fin.ext (by dsimp only; omega))) (by intros; pointwise) (by intros; pointwise) (by intros; pointwise) (by intros; pointwise)
  case piece21 => exact ipT0_eq x4 xs0 xs1 xc _ _ _ _ _ 10 (by omega) y x h0 h1 (by intros; open_payloads; pointwise) (by intros; pointwise) (by intros; pointwise) (by intros; pointwise) (by intros; pointwise)
  case piece22 => exact ipT128_eq x4 xs0 xs1 xc _ _ _ _ _ 9 (by omega) y x h0 h1 (by intros; open_payloads; pointwise; exact congrArg (fun q => x4 (ix2 _ q)) (Fin.ext (by dsimp only; omega))) (by intros; pointwise) (by intros; pointwise) (by intros; pointwise) (by intros; pointwise)
  case piece23 => exact ipT0_eq x4 xs0 xs1 xc _ _ _ _ _ 8 (by omega) y x h0 h1 (by intros; open_payloads; pointwise) (by intros; pointwise) (by intros; pointwise) (by intros; pointwise) (by intros; pointwise)
  case piece24 => exact ipT128_eq x4 xs0 xs1 xc _ _ _ _ _ 7 (by omega) y x h0 h1 (by intros; open_payloads; pointwise; exact congrArg (fun q => x4 (ix2 _ q)) (Fin.ext (by dsimp only; omega))) (by intros; pointwise) (by intros; pointwise) (by intros; pointwise) (by intros; pointwise)
  case piece25 => exact ipT0_eq x4 xs0 xs1 xc _ _ _ _ _ 6 (by omega) y x h0 h1 (by intros; open_payloads; pointwise) (by intros; pointwise) (by intros; pointwise) (by intros; pointwise) (by intros; pointwise)
  case piece26 => exact ipT128_eq x4 xs0 xs1 xc _ _ _ _ _ 5 (by omega) y x h0 h1 (by intros; open_payloads; pointwise; exact congrArg (fun q => x4 (ix2 _ q)) (Fin.ext (by dsimp only; omega))) (by intros; pointwise) (by intros; pointwise) (by intros; pointwise) (by intros; pointwise)
  case piece27 => exact ipT0_eq x4 xs0 xs1 xc _ _ _ _ _ 4 (by omega) y x h0 h1 (by intros; open_payloads; pointwise) (by intros; pointwise) (by intros; pointwise) (by intros; pointwise) (by intros; pointwise)
  case piece28 => exact ipT128_eq x4 xs0 xs1 xc _ _ _ _ _ 3 (by omega) y x h0 h1 (by intros; open_payloads; pointwise; exact congrArg (fun q => x4 (ix2 _ q)) (Fin.ext (by dsimp only; omega))) (by intros; pointwise) (by intros; pointwise) (by intros; pointwise) (by intros; pointwise)
  case piece29 => exact ipT0_eq x4 xs0 xs1 xc _ _ _ _ _ 2 (by omega) y x h0 h1 (by intros; open_payloads; pointwise) (by intros; pointwise) (by intros; pointwise) (by intros; pointwise) (by intros; pointwise)
  case piece30 => exact ipT128_eq x4 xs0 xs1 xc _ _ _ _ _ 1 (by omega) y x h0 h1 (by intros; simp only [words0]; open_payloads; pointwise) (by intros; pointwise) (by intros; pointwise) (by intros; pointwise) (by intros; pointwise)
  case piece31 => exact ipT0_eq x4 xs0 xs1 xc _ _ _ _ _ 0 (by omega) y x h0 (h1.trans (by omega)) (by intros; simp only [words0]; open_payloads; pointwise) (by intros; pointwise) (by intros; pointwise) (by intros; pointwise) (by intros; pointwise)

set_option maxHeartbeats 3000000 in
/-- The error bound. -/
theorem bound_canon (c : Dev nD) (i : grid0.Coords)
  (arg1 : Memref sig .tc .vmem S80x256 .f32) (harg1 : arg1.IsWhole)
  (arg2 : Memref sig .tc .vmem S1x256 .f32) (harg2 : arg2.IsWhole)
  (arg3 : Memref sig .tc .vmem S256x256 .f32) (harg3 : arg3.IsWhole)
  (arg4 : Memref sig .tc .vmem S80x256 .f32) (harg4 : arg4.IsWhole)
  (arg5 : Memref sig .tc .vmem S8x4096 .i32) (harg5 : arg5.IsWhole)
  (arg6 : Memref sig .tc .vmem S32x128 .f32) (harg6 : arg6.IsWhole)
  (arg7 : Memref sig .tc .vmem S32x128 .f32) (harg7 : arg7.IsWhole)
  (arg8 : Memref sig .tc .vmem S80x4096 .f32) (harg8 : arg8.IsWhole)
  (arg9 : Memref sig .tc .vmem S80x4096 .f32) (harg9 : arg9.IsWhole)
  (arg10 : Memref sig .tc .vmem S80x4096 .f32) (harg10 : arg10.IsWhole)
  (arg11 : Memref sig .tc .vmem S80x256 .i8) (harg11 : arg11.IsWhole)
  (arg12 : Memref sig .tc .vmem S1x80 .f32) (harg12 : arg12.IsWhole)
  (arg13 : Memref sig .tc .vmem S1x80 .f32) (harg13 : arg13.IsWhole)
  (arg14 : Memref sig .tc .vmem S80x256 .bf16) (harg14 : arg14.IsWhole)
  (arg15 : Memref sig .tc .vmem S6x80x128 .f32) (harg15 : arg15.IsWhole)
  (arg16 : Memref sig .tc .vmem S4x32x128 .f32) (harg16 : arg16.IsWhole)

    (x4 : Vec Ideal S8x4096 .i32) (xs0 : Vec Ideal S80x256 .bf16) (xs1 : Vec Ideal S6x80x128 .f32) (xc : Vec Ideal S4x32x128 .f32)
    (y : S80x4096.Idx) :
    View.canon (chunksRun (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x4 xs0 xs1 xc).2.1 y = boundAt xs1 xc (y 0) (y 1) := by
  unfold chunksRun
  frame_out
  canon_tiles x h
  case piece0 => exact boundT_eq xs1 xc _ _ 31 (by omega) y x h0 h1 (by intros; pointwise) (by intros; pointwise)
  case piece1 => exact boundT_eq xs1 xc _ _ 30 (by omega) y x h0 h1 (by intros; pointwise) (by intros; pointwise)
  case piece2 => exact boundT_eq xs1 xc _ _ 29 (by omega) y x h0 h1 (by intros; pointwise) (by intros; pointwise)
  case piece3 => exact boundT_eq xs1 xc _ _ 28 (by omega) y x h0 h1 (by intros; pointwise) (by intros; pointwise)
  case piece4 => exact boundT_eq xs1 xc _ _ 27 (by omega) y x h0 h1 (by intros; pointwise) (by intros; pointwise)
  case piece5 => exact boundT_eq xs1 xc _ _ 26 (by omega) y x h0 h1 (by intros; pointwise) (by intros; pointwise)
  case piece6 => exact boundT_eq xs1 xc _ _ 25 (by omega) y x h0 h1 (by intros; pointwise) (by intros; pointwise)
  case piece7 => exact boundT_eq xs1 xc _ _ 24 (by omega) y x h0 h1 (by intros; pointwise) (by intros; pointwise)
  case piece8 => exact boundT_eq xs1 xc _ _ 23 (by omega) y x h0 h1 (by intros; pointwise) (by intros; pointwise)
  case piece9 => exact boundT_eq xs1 xc _ _ 22 (by omega) y x h0 h1 (by intros; pointwise) (by intros; pointwise)
  case piece10 => exact boundT_eq xs1 xc _ _ 21 (by omega) y x h0 h1 (by intros; pointwise) (by intros; pointwise)
  case piece11 => exact boundT_eq xs1 xc _ _ 20 (by omega) y x h0 h1 (by intros; pointwise) (by intros; pointwise)
  case piece12 => exact boundT_eq xs1 xc _ _ 19 (by omega) y x h0 h1 (by intros; pointwise) (by intros; pointwise)
  case piece13 => exact boundT_eq xs1 xc _ _ 18 (by omega) y x h0 h1 (by intros; pointwise) (by intros; pointwise)
  case piece14 => exact boundT_eq xs1 xc _ _ 17 (by omega) y x h0 h1 (by intros; pointwise) (by intros; pointwise)
  case piece15 => exact boundT_eq xs1 xc _ _ 16 (by omega) y x h0 h1 (by intros; pointwise) (by intros; pointwise)
  case piece16 => exact boundT_eq xs1 xc _ _ 15 (by omega) y x h0 h1 (by intros; pointwise) (by intros; pointwise)
  case piece17 => exact boundT_eq xs1 xc _ _ 14 (by omega) y x h0 h1 (by intros; pointwise) (by intros; pointwise)
  case piece18 => exact boundT_eq xs1 xc _ _ 13 (by omega) y x h0 h1 (by intros; pointwise) (by intros; pointwise)
  case piece19 => exact boundT_eq xs1 xc _ _ 12 (by omega) y x h0 h1 (by intros; pointwise) (by intros; pointwise)
  case piece20 => exact boundT_eq xs1 xc _ _ 11 (by omega) y x h0 h1 (by intros; pointwise) (by intros; pointwise)
  case piece21 => exact boundT_eq xs1 xc _ _ 10 (by omega) y x h0 h1 (by intros; pointwise) (by intros; pointwise)
  case piece22 => exact boundT_eq xs1 xc _ _ 9 (by omega) y x h0 h1 (by intros; pointwise) (by intros; pointwise)
  case piece23 => exact boundT_eq xs1 xc _ _ 8 (by omega) y x h0 h1 (by intros; pointwise) (by intros; pointwise)
  case piece24 => exact boundT_eq xs1 xc _ _ 7 (by omega) y x h0 h1 (by intros; pointwise) (by intros; pointwise)
  case piece25 => exact boundT_eq xs1 xc _ _ 6 (by omega) y x h0 h1 (by intros; pointwise) (by intros; pointwise)
  case piece26 => exact boundT_eq xs1 xc _ _ 5 (by omega) y x h0 h1 (by intros; pointwise) (by intros; pointwise)
  case piece27 => exact boundT_eq xs1 xc _ _ 4 (by omega) y x h0 h1 (by intros; pointwise) (by intros; pointwise)
  case piece28 => exact boundT_eq xs1 xc _ _ 3 (by omega) y x h0 h1 (by intros; pointwise) (by intros; pointwise)
  case piece29 => exact boundT_eq xs1 xc _ _ 2 (by omega) y x h0 h1 (by intros; pointwise) (by intros; pointwise)
  case piece30 => exact boundT_eq xs1 xc _ _ 1 (by omega) y x h0 h1 (by intros; pointwise) (by intros; pointwise)
  case piece31 => exact boundT_eq xs1 xc _ _ 0 (by omega) y x h0 (h1.trans (by omega)) (by intros; pointwise) (by intros; pointwise)

set_option maxHeartbeats 3000000 in
/-- The distance. -/
theorem dist_canon (c : Dev nD) (i : grid0.Coords)
  (arg1 : Memref sig .tc .vmem S80x256 .f32) (harg1 : arg1.IsWhole)
  (arg2 : Memref sig .tc .vmem S1x256 .f32) (harg2 : arg2.IsWhole)
  (arg3 : Memref sig .tc .vmem S256x256 .f32) (harg3 : arg3.IsWhole)
  (arg4 : Memref sig .tc .vmem S80x256 .f32) (harg4 : arg4.IsWhole)
  (arg5 : Memref sig .tc .vmem S8x4096 .i32) (harg5 : arg5.IsWhole)
  (arg6 : Memref sig .tc .vmem S32x128 .f32) (harg6 : arg6.IsWhole)
  (arg7 : Memref sig .tc .vmem S32x128 .f32) (harg7 : arg7.IsWhole)
  (arg8 : Memref sig .tc .vmem S80x4096 .f32) (harg8 : arg8.IsWhole)
  (arg9 : Memref sig .tc .vmem S80x4096 .f32) (harg9 : arg9.IsWhole)
  (arg10 : Memref sig .tc .vmem S80x4096 .f32) (harg10 : arg10.IsWhole)
  (arg11 : Memref sig .tc .vmem S80x256 .i8) (harg11 : arg11.IsWhole)
  (arg12 : Memref sig .tc .vmem S1x80 .f32) (harg12 : arg12.IsWhole)
  (arg13 : Memref sig .tc .vmem S1x80 .f32) (harg13 : arg13.IsWhole)
  (arg14 : Memref sig .tc .vmem S80x256 .bf16) (harg14 : arg14.IsWhole)
  (arg15 : Memref sig .tc .vmem S6x80x128 .f32) (harg15 : arg15.IsWhole)
  (arg16 : Memref sig .tc .vmem S4x32x128 .f32) (harg16 : arg16.IsWhole)

    (x4 : Vec Ideal S8x4096 .i32) (xs0 : Vec Ideal S80x256 .bf16) (xs1 : Vec Ideal S6x80x128 .f32) (xc : Vec Ideal S4x32x128 .f32)
    (y : S80x4096.Idx) :
    View.canon (chunksRun (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x4 xs0 xs1 xc).1 y = distAt x4 xs0 xs1 xc (y 0) (y 1) := by
  unfold chunksRun
  frame_out
  canon_tiles x h
  case piece0 => exact distT_eq x4 xs0 xs1 xc _ _ _ _ _ 31 (by omega) y x h0 h1 (by intros; pointwise) (by intros; pointwise) (by intros; pointwise) (by intros; pointwise) (ipT128_eq x4 xs0 xs1 xc _ _ _ _ _ 31 (by omega) y x h0 h1 (by intros; open_payloads; pointwise; exact congrArg (fun q => x4 (ix2 _ q)) (Fin.ext (by dsimp only; omega))) (by intros; pointwise) (by intros; pointwise) (by intros; pointwise) (by intros; pointwise))
  case piece1 => exact distT_eq x4 xs0 xs1 xc _ _ _ _ _ 30 (by omega) y x h0 h1 (by intros; pointwise) (by intros; pointwise) (by intros; pointwise) (by intros; pointwise) (ipT0_eq x4 xs0 xs1 xc _ _ _ _ _ 30 (by omega) y x h0 h1 (by intros; open_payloads; pointwise) (by intros; pointwise) (by intros; pointwise) (by intros; pointwise) (by intros; pointwise))
  case piece2 => exact distT_eq x4 xs0 xs1 xc _ _ _ _ _ 29 (by omega) y x h0 h1 (by intros; pointwise) (by intros; pointwise) (by intros; pointwise) (by intros; pointwise) (ipT128_eq x4 xs0 xs1 xc _ _ _ _ _ 29 (by omega) y x h0 h1 (by intros; open_payloads; pointwise; exact congrArg (fun q => x4 (ix2 _ q)) (Fin.ext (by dsimp only; omega))) (by intros; pointwise) (by intros; pointwise) (by intros; pointwise) (by intros; pointwise))
  case piece3 => exact distT_eq x4 xs0 xs1 xc _ _ _ _ _ 28 (by omega) y x h0 h1 (by intros; pointwise) (by intros; pointwise) (by intros; pointwise) (by intros; pointwise) (ipT0_eq x4 xs0 xs1 xc _ _ _ _ _ 28 (by omega) y x h0 h1 (by intros; open_payloads; pointwise) (by intros; pointwise) (by intros; pointwise) (by intros; pointwise) (by intros; pointwise))
  case piece4 => exact distT_eq x4 xs0 xs1 xc _ _ _ _ _ 27 (by omega) y x h0 h1 (by intros; pointwise) (by intros; pointwise) (by intros; pointwise) (by intros; pointwise) (ipT128_eq x4 xs0 xs1 xc _ _ _ _ _ 27 (by omega) y x h0 h1 (by intros; open_payloads; pointwise; exact congrArg (fun q => x4 (ix2 _ q)) (Fin.ext (by dsimp only; omega))) (by intros; pointwise) (by intros; pointwise) (by intros; pointwise) (by intros; pointwise))
  case piece5 => exact distT_eq x4 xs0 xs1 xc _ _ _ _ _ 26 (by omega) y x h0 h1 (by intros; pointwise) (by intros; pointwise) (by intros; pointwise) (by intros; pointwise) (ipT0_eq x4 xs0 xs1 xc _ _ _ _ _ 26 (by omega) y x h0 h1 (by intros; open_payloads; pointwise) (by intros; pointwise) (by intros; pointwise) (by intros; pointwise) (by intros; pointwise))
  case piece6 => exact distT_eq x4 xs0 xs1 xc _ _ _ _ _ 25 (by omega) y x h0 h1 (by intros; pointwise) (by intros; pointwise) (by intros; pointwise) (by intros; pointwise) (ipT128_eq x4 xs0 xs1 xc _ _ _ _ _ 25 (by omega) y x h0 h1 (by intros; open_payloads; pointwise; exact congrArg (fun q => x4 (ix2 _ q)) (Fin.ext (by dsimp only; omega))) (by intros; pointwise) (by intros; pointwise) (by intros; pointwise) (by intros; pointwise))
  case piece7 => exact distT_eq x4 xs0 xs1 xc _ _ _ _ _ 24 (by omega) y x h0 h1 (by intros; pointwise) (by intros; pointwise) (by intros; pointwise) (by intros; pointwise) (ipT0_eq x4 xs0 xs1 xc _ _ _ _ _ 24 (by omega) y x h0 h1 (by intros; open_payloads; pointwise) (by intros; pointwise) (by intros; pointwise) (by intros; pointwise) (by intros; pointwise))
  case piece8 => exact distT_eq x4 xs0 xs1 xc _ _ _ _ _ 23 (by omega) y x h0 h1 (by intros; pointwise) (by intros; pointwise) (by intros; pointwise) (by intros; pointwise) (ipT128_eq x4 xs0 xs1 xc _ _ _ _ _ 23 (by omega) y x h0 h1 (by intros; open_payloads; pointwise; exact congrArg (fun q => x4 (ix2 _ q)) (Fin.ext (by dsimp only; omega))) (by intros; pointwise) (by intros; pointwise) (by intros; pointwise) (by intros; pointwise))
  case piece9 => exact distT_eq x4 xs0 xs1 xc _ _ _ _ _ 22 (by omega) y x h0 h1 (by intros; pointwise) (by intros; pointwise) (by intros; pointwise) (by intros; pointwise) (ipT0_eq x4 xs0 xs1 xc _ _ _ _ _ 22 (by omega) y x h0 h1 (by intros; open_payloads; pointwise) (by intros; pointwise) (by intros; pointwise) (by intros; pointwise) (by intros; pointwise))
  case piece10 => exact distT_eq x4 xs0 xs1 xc _ _ _ _ _ 21 (by omega) y x h0 h1 (by intros; pointwise) (by intros; pointwise) (by intros; pointwise) (by intros; pointwise) (ipT128_eq x4 xs0 xs1 xc _ _ _ _ _ 21 (by omega) y x h0 h1 (by intros; open_payloads; pointwise; exact congrArg (fun q => x4 (ix2 _ q)) (Fin.ext (by dsimp only; omega))) (by intros; pointwise) (by intros; pointwise) (by intros; pointwise) (by intros; pointwise))
  case piece11 => exact distT_eq x4 xs0 xs1 xc _ _ _ _ _ 20 (by omega) y x h0 h1 (by intros; pointwise) (by intros; pointwise) (by intros; pointwise) (by intros; pointwise) (ipT0_eq x4 xs0 xs1 xc _ _ _ _ _ 20 (by omega) y x h0 h1 (by intros; open_payloads; pointwise) (by intros; pointwise) (by intros; pointwise) (by intros; pointwise) (by intros; pointwise))
  case piece12 => exact distT_eq x4 xs0 xs1 xc _ _ _ _ _ 19 (by omega) y x h0 h1 (by intros; pointwise) (by intros; pointwise) (by intros; pointwise) (by intros; pointwise) (ipT128_eq x4 xs0 xs1 xc _ _ _ _ _ 19 (by omega) y x h0 h1 (by intros; open_payloads; pointwise; exact congrArg (fun q => x4 (ix2 _ q)) (Fin.ext (by dsimp only; omega))) (by intros; pointwise) (by intros; pointwise) (by intros; pointwise) (by intros; pointwise))
  case piece13 => exact distT_eq x4 xs0 xs1 xc _ _ _ _ _ 18 (by omega) y x h0 h1 (by intros; pointwise) (by intros; pointwise) (by intros; pointwise) (by intros; pointwise) (ipT0_eq x4 xs0 xs1 xc _ _ _ _ _ 18 (by omega) y x h0 h1 (by intros; open_payloads; pointwise) (by intros; pointwise) (by intros; pointwise) (by intros; pointwise) (by intros; pointwise))
  case piece14 => exact distT_eq x4 xs0 xs1 xc _ _ _ _ _ 17 (by omega) y x h0 h1 (by intros; pointwise) (by intros; pointwise) (by intros; pointwise) (by intros; pointwise) (ipT128_eq x4 xs0 xs1 xc _ _ _ _ _ 17 (by omega) y x h0 h1 (by intros; open_payloads; pointwise; exact congrArg (fun q => x4 (ix2 _ q)) (Fin.ext (by dsimp only; omega))) (by intros; pointwise) (by intros; pointwise) (by intros; pointwise) (by intros; pointwise))
  case piece15 => exact distT_eq x4 xs0 xs1 xc _ _ _ _ _ 16 (by omega) y x h0 h1 (by intros; pointwise) (by intros; pointwise) (by intros; pointwise) (by intros; pointwise) (ipT0_eq x4 xs0 xs1 xc _ _ _ _ _ 16 (by omega) y x h0 h1 (by intros; open_payloads; pointwise) (by intros; pointwise) (by intros; pointwise) (by intros; pointwise) (by intros; pointwise))
  case piece16 => exact distT_eq x4 xs0 xs1 xc _ _ _ _ _ 15 (by omega) y x h0 h1 (by intros; pointwise) (by intros; pointwise) (by intros; pointwise) (by intros; pointwise) (ipT128_eq x4 xs0 xs1 xc _ _ _ _ _ 15 (by omega) y x h0 h1 (by intros; open_payloads; pointwise; exact congrArg (fun q => x4 (ix2 _ q)) (Fin.ext (by dsimp only; omega))) (by intros; pointwise) (by intros; pointwise) (by intros; pointwise) (by intros; pointwise))
  case piece17 => exact distT_eq x4 xs0 xs1 xc _ _ _ _ _ 14 (by omega) y x h0 h1 (by intros; pointwise) (by intros; pointwise) (by intros; pointwise) (by intros; pointwise) (ipT0_eq x4 xs0 xs1 xc _ _ _ _ _ 14 (by omega) y x h0 h1 (by intros; open_payloads; pointwise) (by intros; pointwise) (by intros; pointwise) (by intros; pointwise) (by intros; pointwise))
  case piece18 => exact distT_eq x4 xs0 xs1 xc _ _ _ _ _ 13 (by omega) y x h0 h1 (by intros; pointwise) (by intros; pointwise) (by intros; pointwise) (by intros; pointwise) (ipT128_eq x4 xs0 xs1 xc _ _ _ _ _ 13 (by omega) y x h0 h1 (by intros; open_payloads; pointwise; exact congrArg (fun q => x4 (ix2 _ q)) (Fin.ext (by dsimp only; omega))) (by intros; pointwise) (by intros; pointwise) (by intros; pointwise) (by intros; pointwise))
  case piece19 => exact distT_eq x4 xs0 xs1 xc _ _ _ _ _ 12 (by omega) y x h0 h1 (by intros; pointwise) (by intros; pointwise) (by intros; pointwise) (by intros; pointwise) (ipT0_eq x4 xs0 xs1 xc _ _ _ _ _ 12 (by omega) y x h0 h1 (by intros; open_payloads; pointwise) (by intros; pointwise) (by intros; pointwise) (by intros; pointwise) (by intros; pointwise))
  case piece20 => exact distT_eq x4 xs0 xs1 xc _ _ _ _ _ 11 (by omega) y x h0 h1 (by intros; pointwise) (by intros; pointwise) (by intros; pointwise) (by intros; pointwise) (ipT128_eq x4 xs0 xs1 xc _ _ _ _ _ 11 (by omega) y x h0 h1 (by intros; open_payloads; pointwise; exact congrArg (fun q => x4 (ix2 _ q)) (Fin.ext (by dsimp only; omega))) (by intros; pointwise) (by intros; pointwise) (by intros; pointwise) (by intros; pointwise))
  case piece21 => exact distT_eq x4 xs0 xs1 xc _ _ _ _ _ 10 (by omega) y x h0 h1 (by intros; pointwise) (by intros; pointwise) (by intros; pointwise) (by intros; pointwise) (ipT0_eq x4 xs0 xs1 xc _ _ _ _ _ 10 (by omega) y x h0 h1 (by intros; open_payloads; pointwise) (by intros; pointwise) (by intros; pointwise) (by intros; pointwise) (by intros; pointwise))
  case piece22 => exact distT_eq x4 xs0 xs1 xc _ _ _ _ _ 9 (by omega) y x h0 h1 (by intros; pointwise) (by intros; pointwise) (by intros; pointwise) (by intros; pointwise) (ipT128_eq x4 xs0 xs1 xc _ _ _ _ _ 9 (by omega) y x h0 h1 (by intros; open_payloads; pointwise; exact congrArg (fun q => x4 (ix2 _ q)) (Fin.ext (by dsimp only; omega))) (by intros; pointwise) (by intros; pointwise) (by intros; pointwise) (by intros; pointwise))
  case piece23 => exact distT_eq x4 xs0 xs1 xc _ _ _ _ _ 8 (by omega) y x h0 h1 (by intros; pointwise) (by intros; pointwise) (by intros; pointwise) (by intros; pointwise) (ipT0_eq x4 xs0 xs1 xc _ _ _ _ _ 8 (by omega) y x h0 h1 (by intros; open_payloads; pointwise) (by intros; pointwise) (by intros; pointwise) (by intros; pointwise) (by intros; pointwise))
  case piece24 => exact distT_eq x4 xs0 xs1 xc _ _ _ _ _ 7 (by omega) y x h0 h1 (by intros; pointwise) (by intros; pointwise) (by intros; pointwise) (by intros; pointwise) (ipT128_eq x4 xs0 xs1 xc _ _ _ _ _ 7 (by omega) y x h0 h1 (by intros; open_payloads; pointwise; exact congrArg (fun q => x4 (ix2 _ q)) (Fin.ext (by dsimp only; omega))) (by intros; pointwise) (by intros; pointwise) (by intros; pointwise) (by intros; pointwise))
  case piece25 => exact distT_eq x4 xs0 xs1 xc _ _ _ _ _ 6 (by omega) y x h0 h1 (by intros; pointwise) (by intros; pointwise) (by intros; pointwise) (by intros; pointwise) (ipT0_eq x4 xs0 xs1 xc _ _ _ _ _ 6 (by omega) y x h0 h1 (by intros; open_payloads; pointwise) (by intros; pointwise) (by intros; pointwise) (by intros; pointwise) (by intros; pointwise))
  case piece26 => exact distT_eq x4 xs0 xs1 xc _ _ _ _ _ 5 (by omega) y x h0 h1 (by intros; pointwise) (by intros; pointwise) (by intros; pointwise) (by intros; pointwise) (ipT128_eq x4 xs0 xs1 xc _ _ _ _ _ 5 (by omega) y x h0 h1 (by intros; open_payloads; pointwise; exact congrArg (fun q => x4 (ix2 _ q)) (Fin.ext (by dsimp only; omega))) (by intros; pointwise) (by intros; pointwise) (by intros; pointwise) (by intros; pointwise))
  case piece27 => exact distT_eq x4 xs0 xs1 xc _ _ _ _ _ 4 (by omega) y x h0 h1 (by intros; pointwise) (by intros; pointwise) (by intros; pointwise) (by intros; pointwise) (ipT0_eq x4 xs0 xs1 xc _ _ _ _ _ 4 (by omega) y x h0 h1 (by intros; open_payloads; pointwise) (by intros; pointwise) (by intros; pointwise) (by intros; pointwise) (by intros; pointwise))
  case piece28 => exact distT_eq x4 xs0 xs1 xc _ _ _ _ _ 3 (by omega) y x h0 h1 (by intros; pointwise) (by intros; pointwise) (by intros; pointwise) (by intros; pointwise) (ipT128_eq x4 xs0 xs1 xc _ _ _ _ _ 3 (by omega) y x h0 h1 (by intros; open_payloads; pointwise; exact congrArg (fun q => x4 (ix2 _ q)) (Fin.ext (by dsimp only; omega))) (by intros; pointwise) (by intros; pointwise) (by intros; pointwise) (by intros; pointwise))
  case piece29 => exact distT_eq x4 xs0 xs1 xc _ _ _ _ _ 2 (by omega) y x h0 h1 (by intros; pointwise) (by intros; pointwise) (by intros; pointwise) (by intros; pointwise) (ipT0_eq x4 xs0 xs1 xc _ _ _ _ _ 2 (by omega) y x h0 h1 (by intros; open_payloads; pointwise) (by intros; pointwise) (by intros; pointwise) (by intros; pointwise) (by intros; pointwise))
  case piece30 => exact distT_eq x4 xs0 xs1 xc _ _ _ _ _ 1 (by omega) y x h0 h1 (by intros; pointwise) (by intros; pointwise) (by intros; pointwise) (by intros; pointwise) (ipT128_eq x4 xs0 xs1 xc _ _ _ _ _ 1 (by omega) y x h0 h1 (by intros; simp only [words0]; open_payloads; pointwise) (by intros; pointwise) (by intros; pointwise) (by intros; pointwise) (by intros; pointwise))
  case piece31 => exact distT_eq x4 xs0 xs1 xc _ _ _ _ _ 0 (by omega) y x h0 (h1.trans (by omega)) (by intros; pointwise) (by intros; pointwise) (by intros; pointwise) (by intros; pointwise) (ipT0_eq x4 xs0 xs1 xc _ _ _ _ _ 0 (by omega) y x h0 (h1.trans (by omega)) (by intros; simp only [words0]; open_payloads; pointwise) (by intros; pointwise) (by intros; pointwise) (by intros; pointwise) (by intros; pointwise))

end Cert.KernelIdeal.Body

end
-- ==== Proof.Body.Whole.lean ====
/- The whole kernel body at a point, over the reals: the opening and then the chunks, with every buffer's contents closed
   functions of the point's blocks and of what the first point prepared. -/
module

public import proofs.«01_k».proof.Proof.Body.ChunkValues

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen
open Cert.KernelIdeal.Facts

local notation "𝕄" => MT nD τ sig Unit (Elt Ideal) ℕ (UR sig nD τ) ℕ

section Outputs
variable (x4 : Vec Ideal S8x4096 .i32) (l : Vec Ideal S80x256 .bf16) (row : Vec Ideal S6x80x128 .f32) (col : Vec Ideal S4x32x128 .f32)

/-- A block of distances. -/
def distOf : Vec Ideal S80x4096 .f32 := fun y => distAt x4 l row col (y 0) (y 1)

/-- A block of error bounds. -/
def boundOf : Vec Ideal S80x4096 .f32 := fun y => boundAt row col (y 0) (y 1)

/-- A block of estimates. -/
def ipOf : Vec Ideal S80x4096 .f32 := fun y => ipAt x4 l row col (y 0) (y 1)

end Outputs

section Whole
variable (c : Dev nD) (i : grid0.Coords)
  (arg1 : Memref sig .tc .vmem S80x256 .f32) (harg1 : arg1.IsWhole)
  (arg2 : Memref sig .tc .vmem S1x256 .f32) (harg2 : arg2.IsWhole)
  (arg3 : Memref sig .tc .vmem S256x256 .f32) (harg3 : arg3.IsWhole)
  (arg4 : Memref sig .tc .vmem S80x256 .f32) (harg4 : arg4.IsWhole)
  (arg5 : Memref sig .tc .vmem S8x4096 .i32) (harg5 : arg5.IsWhole)
  (arg6 : Memref sig .tc .vmem S32x128 .f32) (harg6 : arg6.IsWhole)
  (arg7 : Memref sig .tc .vmem S32x128 .f32) (harg7 : arg7.IsWhole)
  (arg8 : Memref sig .tc .vmem S80x4096 .f32) (harg8 : arg8.IsWhole)
  (arg9 : Memref sig .tc .vmem S80x4096 .f32) (harg9 : arg9.IsWhole)
  (arg10 : Memref sig .tc .vmem S80x4096 .f32) (harg10 : arg10.IsWhole)
  (arg11 : Memref sig .tc .vmem S80x256 .i8) (harg11 : arg11.IsWhole)
  (arg12 : Memref sig .tc .vmem S1x80 .f32) (harg12 : arg12.IsWhole)
  (arg13 : Memref sig .tc .vmem S1x80 .f32) (harg13 : arg13.IsWhole)
  (arg14 : Memref sig .tc .vmem S80x256 .bf16) (harg14 : arg14.IsWhole)
  (arg15 : Memref sig .tc .vmem S6x80x128 .f32) (harg15 : arg15.IsWhole)
  (arg16 : Memref sig .tc .vmem S4x32x128 .f32) (harg16 : arg16.IsWhole)
  (x0 : Vec Ideal S80x256 .f32) (x1 : Vec Ideal S1x256 .f32) (x2 : Vec Ideal S256x256 .f32) (x3 : Vec Ideal S80x256 .f32)
  (x4 : Vec Ideal S8x4096 .i32) (x5 x6 : Vec Ideal S32x128 .f32)

/-- What the body leaves. -/
def closed (codes : Vec Ideal S80x256 .i8) (dl vl : Vec Ideal S1x80 .f32) (lhs : Vec Ideal S80x256 .bf16) (row : Vec Ideal S6x80x128 .f32) : sProp 𝕄 :=
  iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
    ∗ owns (c : Thread nD τ) arg8 fullShare (distOf x4 lhs row (colOf x5 x6)) ∗ owns (c : Thread nD τ) arg9 fullShare (boundOf row (colOf x5 x6)) ∗ owns (c : Thread nD τ) arg10 fullShare (ipOf x4 lhs row (colOf x5 x6))
    ∗ owns (c : Thread nD τ) arg11 fullShare codes ∗ owns (c : Thread nD τ) arg12 fullShare dl ∗ owns (c : Thread nD τ) arg13 fullShare vl
    ∗ owns (c : Thread nD τ) arg14 fullShare lhs ∗ owns (c : Thread nD τ) arg15 fullShare row ∗ owns (c : Thread nD τ) arg16 fullShare (colOf x5 x6))

set_option maxHeartbeats 2000000 in
/-- Whatever opens the body, the chunks close it. -/
theorem body_of_open (codes : Vec Ideal S80x256 .i8) (dl vl : Vec Ideal S1x80 .f32) (lhs : Vec Ideal S80x256 .bf16) (row : Vec Ideal S6x80x128 .f32)
    (E : Set ℕ) (R : sProp 𝕄)
    (hopen : R ⊢ wp frame (wpE (defs₀ (F := Ideal)) Variants.none c none) E (k0_part4 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16)
      (fun v30 => opened c arg1 arg2 arg3 arg4 arg5 arg6 arg7 arg11 arg12 arg13 arg14 arg15 arg16 x0 x1 x2 x3 x4 x5 x6 codes dl vl lhs row v30))
    (K : PUnit → sProp 𝕄) :
    iprop(R ∗ (∃ d, owns (c : Thread nD τ) arg8 fullShare d) ∗ (∃ d, owns (c : Thread nD τ) arg9 fullShare d) ∗ (∃ d, owns (c : Thread nD τ) arg10 fullShare d)
      ∗ (closed c arg1 arg2 arg3 arg4 arg5 arg6 arg7 arg8 arg9 arg10 arg11 arg12 arg13 arg14 arg15 arg16 x0 x1 x2 x3 x4 x5 x6 codes dl vl lhs row -∗ K ⟨⟩))
    ⊢ wp frame (wpE (defs₀ (F := Ideal)) Variants.none c none) E (cc0_rabitq_estimate i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  have hopen' := hopen.trans (wp_mono frame (wpE (defs₀ (F := Ideal)) Variants.none c none) E (Q' := fun v30 =>
      iprop(⌜v30 = words0 x4⌝ ∗ owns (c : Thread nD τ) arg5 fullShare x4 ∗ owns (c : Thread nD τ) arg14 fullShare lhs ∗ owns (c : Thread nD τ) arg15 fullShare row ∗ owns (c : Thread nD τ) arg16 fullShare (colOf x5 x6)
        ∗ iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg6 fullShare x5 ∗ owns (c : Thread nD τ) arg7 fullShare x6 ∗ owns (c : Thread nD τ) arg11 fullShare codes ∗ owns (c : Thread nD τ) arg12 fullShare dl ∗ owns (c : Thread nD τ) arg13 fullShare vl)))
    (fun v30 => by
      unfold opened
      iintro ⟨%hv, H1, H2, H3, H4, H5, H6, H7, H11, H12, H13, H14, H15, H16⟩
      isplitr; · ipureintro; exact hv
      isplitl [H5]; · iexact H5
      isplitl [H14]; · iexact H14
      isplitl [H15]; · iexact H15
      isplitl [H16]; · iexact H16
      isplitl [H1]; · iexact H1
      isplitl [H2]; · iexact H2
      isplitl [H3]; · iexact H3
      isplitl [H4]; · iexact H4
      isplitl [H6]; · iexact H6
      isplitl [H7]; · iexact H7
      isplitl [H11]; · iexact H11
      isplitl [H12]; · iexact H12
      iexact H13))
  iintro ⟨HR, H8, H9, H10, Hk⟩
  iapply ((chunksRun (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x4 lhs row (colOf x5 x6)).2.2.2 E R _ hopen' K)
  isplitl [HR]; · iexact HR
  isplitl [H8]; · iexact H8
  isplitl [H9]; · iexact H9
  isplitl [H10]; · iexact H10
  iintro ⟨H5, H14, H15, H16, ⟨H1, H2, H3, H4, H6, H7, H11, H12, H13⟩, ⟨%f8, H8⟩, ⟨%f9, H9⟩, ⟨%f10, H10⟩⟩
  iapply Hk
  unfold closed
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · unfold owns; iexists _; isplitr
    swap; · iexact H8
    ipureintro
    refine Eq.trans (View.read_writes_eq_canon _ _ _ ?_) ?_
    · intro y; exact View.cover_of_tiledL (s := S80x4096) _ S80x128.size (by sl_kernel_rfl) y
    · funext y; exact dist_canon c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x4 lhs row (colOf x5 x6) y
  isplitl [H9]
  · unfold owns; iexists _; isplitr
    swap; · iexact H9
    ipureintro
    refine Eq.trans (View.read_writes_eq_canon _ _ _ ?_) ?_
    · intro y; exact View.cover_of_tiledL (s := S80x4096) _ S80x128.size (by sl_kernel_rfl) y
    · funext y; exact bound_canon c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x4 lhs row (colOf x5 x6) y
  isplitl [H10]
  · unfold owns; iexists _; isplitr
    swap; · iexact H10
    ipureintro
    refine Eq.trans (View.read_writes_eq_canon _ _ _ ?_) ?_
    · intro y; exact View.cover_of_tiledL (s := S80x4096) _ S80x128.size (by sl_kernel_rfl) y
    · funext y; exact ip_canon c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x4 lhs row (colOf x5 x6) y
  isplitl [H11]; · iexact H11
  isplitl [H12]; · iexact H12
  isplitl [H13]; · iexact H13
  isplitl [H14]; · iexact H14
  isplitl [H15]; · iexact H15
  iexact H16

end Whole

end Cert.KernelIdeal.Body

end
-- ==== Proof.Body.Point.lean ====
/- The pipeline's proof data over the reals: what each window's buffer holds before and after every point. -/
module

public import proofs.«01_k».proof.Proof.Body.Whole
public import Idealize.ShloMosaic.Lib.Pipeline.TableIdle

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen
open Cert.KernelIdeal.Facts

local notation "𝕄" => MT nD τ sig Unit (Elt Ideal) ℕ (UR sig nD τ) ℕ

variable (m : (ℓ : Loc nD τ sig) → Buf (Elt Ideal) ℓ) (ρ : Dev nD → PrngReg)

/-! ## The staging buffers and the scratch -/

abbrev ms0_0 (t : Fin cfg0.N) : Memref sig .tc .vmem S80x256 .f32 := win0_0.stage (cfg0.slots t 0)
abbrev ms0_1 (t : Fin cfg0.N) : Memref sig .tc .vmem S1x256 .f32 := win0_1.stage (cfg0.slots t 1)
abbrev ms0_2 (t : Fin cfg0.N) : Memref sig .tc .vmem S256x256 .f32 := win0_2.stage (cfg0.slots t 2)
abbrev ms0_3 (t : Fin cfg0.N) : Memref sig .tc .vmem S80x256 .f32 := win0_3.stage (cfg0.slots t 3)
abbrev ms0_4 (t : Fin cfg0.N) : Memref sig .tc .vmem S8x4096 .i32 := win0_4.stage (cfg0.slots t 4)
abbrev ms0_5 (t : Fin cfg0.N) : Memref sig .tc .vmem S32x128 .f32 := win0_5.stage (cfg0.slots t 5)
abbrev ms0_6 (t : Fin cfg0.N) : Memref sig .tc .vmem S32x128 .f32 := win0_6.stage (cfg0.slots t 6)
abbrev ms0_7 (t : Fin cfg0.N) : Memref sig .tc .vmem S80x4096 .f32 := win0_7.stage (cfg0.slots t 7)
abbrev ms0_8 (t : Fin cfg0.N) : Memref sig .tc .vmem S80x4096 .f32 := win0_8.stage (cfg0.slots t 8)
abbrev ms0_9 (t : Fin cfg0.N) : Memref sig .tc .vmem S80x4096 .f32 := win0_9.stage (cfg0.slots t 9)
abbrev ms0_10 (t : Fin cfg0.N) : Memref sig .tc .vmem S80x256 .i8 := win0_10.stage (cfg0.slots t 10)
abbrev ms0_11 (t : Fin cfg0.N) : Memref sig .tc .vmem S1x80 .f32 := win0_11.stage (cfg0.slots t 11)
abbrev ms0_12 (t : Fin cfg0.N) : Memref sig .tc .vmem S1x80 .f32 := win0_12.stage (cfg0.slots t 12)

abbrev scM0_0 : Memref sig .tc .vmem S80x256 .bf16 := Memref.whole cc0_scratch0
abbrev scM0_1 : Memref sig .tc .vmem S6x80x128 .f32 := Memref.whole cc0_scratch1
abbrev scM0_2 : Memref sig .tc .vmem S4x32x128 .f32 := Memref.whole cc0_scratch2

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

/-! ## What the first point prepares, from the blocks it finds -/

/-- The first point. -/
def t0 : Fin cfg0.N := ⟨0, lt_of_lt_of_eq (by omega : 0 < 128) (show cfg0.N = 128 from N_0).symm⟩

section Query
variable (c : Dev nD)
def qCodes : Vec Ideal S80x256 .i8 := codesOf (iblk m c 0 t0) (iblk m c 1 t0) (iblk m c 2 t0) (iblk m c 3 t0)
def qDelta : Vec Ideal S1x80 .f32 := deltaOf (iblk m c 0 t0) (iblk m c 1 t0) (iblk m c 2 t0)
def qVl : Vec Ideal S1x80 .f32 := vlOf (iblk m c 0 t0) (iblk m c 1 t0) (iblk m c 2 t0)
def qLhs : Vec Ideal S80x256 .bf16 := lhsOf (iblk m c 0 t0) (iblk m c 1 t0) (iblk m c 2 t0) (iblk m c 3 t0)
def qRow : Vec Ideal S6x80x128 .f32 := rowOf (iblk m c 0 t0) (iblk m c 1 t0) (iblk m c 2 t0) (iblk m c 3 t0)
end Query

/-- Between points: before the first anything, afterwards the left operand and the row planes as the first point made them. -/
def PhiS (c : Dev nD) : (n : ℕ) → sProp 𝕄
  | 0 => Pipeline.ΦA spec0 c
  | _ + 1 => iprop(iprop(owns (c : Thread nD τ) scM0_0 fullShare (qLhs m c) ∗ owns (c : Thread nD τ) scM0_1 fullShare (qRow m c) ∗ (∃ d, owns (c : Thread nD τ) scM0_2 fullShare d)) ∗ (∃ r, prngReg c r))

theorem PhiS_pos (c : Dev nD) (n : ℕ) (hz : n ≠ 0) :
    PhiS m c n = iprop(iprop(owns (c : Thread nD τ) scM0_0 fullShare (qLhs m c) ∗ owns (c : Thread nD τ) scM0_1 fullShare (qRow m c) ∗ (∃ d, owns (c : Thread nD τ) scM0_2 fullShare d)) ∗ (∃ r, prngReg c r)) := by
  cases n with
  | zero => exact absurd rfl hz
  | succ n => rfl

/-- The proof data: the arrays as the region finds them, and what each window's buffer holds after a point. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => distOf (iblk m c 4 t) (qLhs m c) (qRow m c) (colOf (iblk m c 5 t) (iblk m c 6 t))
    | ⟨8, _⟩ => boundOf (qRow m c) (colOf (iblk m c 5 t) (iblk m c 6 t))
    | ⟨9, _⟩ => ipOf (iblk m c 4 t) (qLhs m c) (qRow m c) (colOf (iblk m c 5 t) (iblk m c 6 t))
    | ⟨10, _⟩ => qCodes m c
    | ⟨11, _⟩ => qDelta m c
    | ⟨12, _⟩ => qVl m c
  Φ t := PhiS m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = distOf (iblk m c 4 t) (qLhs m c) (qRow m c) (colOf (iblk m c 5 t) (iblk m c 6 t)) := by dsimp only [dats]
theorem after0_8 (c : Dev nD) (t : Fin cfg0.N) : (dats m 0 c).after 8 t = boundOf (qRow m c) (colOf (iblk m c 5 t) (iblk m c 6 t)) := by dsimp only [dats]
theorem after0_9 (c : Dev nD) (t : Fin cfg0.N) : (dats m 0 c).after 9 t = ipOf (iblk m c 4 t) (qLhs m c) (qRow m c) (colOf (iblk m c 5 t) (iblk m c 6 t)) := by dsimp only [dats]
theorem after0_10 (c : Dev nD) (t : Fin cfg0.N) : (dats m 0 c).after 10 t = qCodes m c := by dsimp only [dats]
theorem after0_11 (c : Dev nD) (t : Fin cfg0.N) : (dats m 0 c).after 11 t = qDelta m c := by dsimp only [dats]
theorem after0_12 (c : Dev nD) (t : Fin cfg0.N) : (dats m 0 c).after 12 t = qVl m c := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-! ## The query outputs, stored at the first point alone -/

theorem idle0_10 (t : Fin cfg0.N) : cfg0.idle 10 (cfg0.grid.coords t) = !decide (t.val = 0) := by
  have e : cfg0.idle 10 (cfg0.grid.coords t) = !(k0_cond1 (grid0.coords t) == 1#1) := rfl
  rw [e]
  congr 1
  by_cases h : t.val = 0
  · rw [decide_eq_true h]; exact beq_iff_eq.mpr ((isFirst_iff t).mpr h)
  · rw [decide_eq_false h]; exact beq_eq_false_iff_ne.mpr fun hc => h ((isFirst_iff t).mp hc)

theorem noflush0_10 (t : Fin cfg0.N) (h : t.val < 127) : (cfg0.win 10).flush t = false :=
  Bool.eq_false_iff.mpr fun hf => by have := (flush0_10 t).mp hf; omega

theorem fresh0_10 : ∀ n : ℕ, n ≠ 0 → n < 128 → cfg0.fresh 10 n = false
  | 0, h, _ => absurd rfl h
  | n + 1, _, hn => by
    have hN : cfg0.N = 128 := N_0
    rw [cfg0.fresh_succ 10 n (by omega), noflush0_10 _ (by dsimp only; omega), idle0_10, Bool.false_or]
    by_cases h : n = 0
    · simp [h]
    · rw [fresh0_10 n h (by omega), Bool.and_false]

/-- A query output's buffer still holds, at a later point, what the first one left. -/
theorem before0_10 (c : Dev nD) (t : Fin cfg0.N) (h0 : ¬t.val = 0) (d) : (dats m 0 c).before 10 t d = qCodes m c := by
  have hN : t.val < 128 := lt_of_lt_of_eq t.isLt (show cfg0.N = 128 from N_0)
  rw [(dats m 0 c).before_out_traj 10 rfl (fun _ _ => rfl) (fun t _ _ _ => by rw [after0_10, after0_10]) t.val t rfl d,
    fresh0_10 t.val h0 hN, if_neg Bool.false_ne_true, after0_10]

/-- What the body leaves there, as the pipeline asks for it: what it found, at the points that do not store it. -/
theorem leave0_10 (c : Dev nD) (t : Fin cfg0.N) :
    owns (c : Thread nD τ) (ms0_10 t) fullShare ((dats m 0 c).after 10 t) ⊢
      (match cfg0.idle 10 (cfg0.grid.coords t) with
        | true => match (cfg0.win 10).flush t with
          | false => iprop(∃ d, owns (c : Thread nD τ) ((cfg0.win 10).stage (cfg0.slots t 10)) fullShare ((dats m 0 c).before 10 t d))
          | true => owns (c : Thread nD τ) ((cfg0.win 10).stage (cfg0.slots t 10)) fullShare ((dats m 0 c).after 10 t)
        | false => owns (c : Thread nD τ) ((cfg0.win 10).stage (cfg0.slots t 10)) fullShare ((dats m 0 c).after 10 t) : sProp 𝕄) := by
  rw [idle0_10]
  by_cases h : t.val = 0
  · simp only [h, decide_true, Bool.not_true]
    exact .rfl
  · simp only [h, decide_false, Bool.not_false]
    cases (cfg0.win 10).flush t
    · simp only [before0_10 m c t h, after0_10]
      iintro H
      iexists (fun _ => default)
      iexact H
    · exact .rfl

theorem idle0_11 (t : Fin cfg0.N) : cfg0.idle 11 (cfg0.grid.coords t) = !decide (t.val = 0) := by
  have e : cfg0.idle 11 (cfg0.grid.coords t) = !(k0_cond1 (grid0.coords t) == 1#1) := rfl
  rw [e]
  congr 1
  by_cases h : t.val = 0
  · rw [decide_eq_true h]; exact beq_iff_eq.mpr ((isFirst_iff t).mpr h)
  · rw [decide_eq_false h]; exact beq_eq_false_iff_ne.mpr fun hc => h ((isFirst_iff t).mp hc)

theorem noflush0_11 (t : Fin cfg0.N) (h : t.val < 127) : (cfg0.win 11).flush t = false :=
  Bool.eq_false_iff.mpr fun hf => by have := (flush0_11 t).mp hf; omega

theorem fresh0_11 : ∀ n : ℕ, n ≠ 0 → n < 128 → cfg0.fresh 11 n = false
  | 0, h, _ => absurd rfl h
  | n + 1, _, hn => by
    have hN : cfg0.N = 128 := N_0
    rw [cfg0.fresh_succ 11 n (by omega), noflush0_11 _ (by dsimp only; omega), idle0_11, Bool.false_or]
    by_cases h : n = 0
    · simp [h]
    · rw [fresh0_11 n h (by omega), Bool.and_false]

/-- A query output's buffer still holds, at a later point, what the first one left. -/
theorem before0_11 (c : Dev nD) (t : Fin cfg0.N) (h0 : ¬t.val = 0) (d) : (dats m 0 c).before 11 t d = qDelta m c := by
  have hN : t.val < 128 := lt_of_lt_of_eq t.isLt (show cfg0.N = 128 from N_0)
  rw [(dats m 0 c).before_out_traj 11 rfl (fun _ _ => rfl) (fun t _ _ _ => by rw [after0_11, after0_11]) t.val t rfl d,
    fresh0_11 t.val h0 hN, if_neg Bool.false_ne_true, after0_11]

/-- What the body leaves there, as the pipeline asks for it: what it found, at the points that do not store it. -/
theorem leave0_11 (c : Dev nD) (t : Fin cfg0.N) :
    owns (c : Thread nD τ) (ms0_11 t) fullShare ((dats m 0 c).after 11 t) ⊢
      (match cfg0.idle 11 (cfg0.grid.coords t) with
        | true => match (cfg0.win 11).flush t with
          | false => iprop(∃ d, owns (c : Thread nD τ) ((cfg0.win 11).stage (cfg0.slots t 11)) fullShare ((dats m 0 c).before 11 t d))
          | true => owns (c : Thread nD τ) ((cfg0.win 11).stage (cfg0.slots t 11)) fullShare ((dats m 0 c).after 11 t)
        | false => owns (c : Thread nD τ) ((cfg0.win 11).stage (cfg0.slots t 11)) fullShare ((dats m 0 c).after 11 t) : sProp 𝕄) := by
  rw [idle0_11]
  by_cases h : t.val = 0
  · simp only [h, decide_true, Bool.not_true]
    exact .rfl
  · simp only [h, decide_false, Bool.not_false]
    cases (cfg0.win 11).flush t
    · simp only [before0_11 m c t h, after0_11]
      iintro H
      iexists (fun _ => default)
      iexact H
    · exact .rfl

theorem idle0_12 (t : Fin cfg0.N) : cfg0.idle 12 (cfg0.grid.coords t) = !decide (t.val = 0) := by
  have e : cfg0.idle 12 (cfg0.grid.coords t) = !(k0_cond1 (grid0.coords t) == 1#1) := rfl
  rw [e]
  congr 1
  by_cases h : t.val = 0
  · rw [decide_eq_true h]; exact beq_iff_eq.mpr ((isFirst_iff t).mpr h)
  · rw [decide_eq_false h]; exact beq_eq_false_iff_ne.mpr fun hc => h ((isFirst_iff t).mp hc)

theorem noflush0_12 (t : Fin cfg0.N) (h : t.val < 127) : (cfg0.win 12).flush t = false :=
  Bool.eq_false_iff.mpr fun hf => by have := (flush0_12 t).mp hf; omega

theorem fresh0_12 : ∀ n : ℕ, n ≠ 0 → n < 128 → cfg0.fresh 12 n = false
  | 0, h, _ => absurd rfl h
  | n + 1, _, hn => by
    have hN : cfg0.N = 128 := N_0
    rw [cfg0.fresh_succ 12 n (by omega), noflush0_12 _ (by dsimp only; omega), idle0_12, Bool.false_or]
    by_cases h : n = 0
    · simp [h]
    · rw [fresh0_12 n h (by omega), Bool.and_false]

/-- A query output's buffer still holds, at a later point, what the first one left. -/
theorem before0_12 (c : Dev nD) (t : Fin cfg0.N) (h0 : ¬t.val = 0) (d) : (dats m 0 c).before 12 t d = qVl m c := by
  have hN : t.val < 128 := lt_of_lt_of_eq t.isLt (show cfg0.N = 128 from N_0)
  rw [(dats m 0 c).before_out_traj 12 rfl (fun _ _ => rfl) (fun t _ _ _ => by rw [after0_12, after0_12]) t.val t rfl d,
    fresh0_12 t.val h0 hN, if_neg Bool.false_ne_true, after0_12]

/-- What the body leaves there, as the pipeline asks for it: what it found, at the points that do not store it. -/
theorem leave0_12 (c : Dev nD) (t : Fin cfg0.N) :
    owns (c : Thread nD τ) (ms0_12 t) fullShare ((dats m 0 c).after 12 t) ⊢
      (match cfg0.idle 12 (cfg0.grid.coords t) with
        | true => match (cfg0.win 12).flush t with
          | false => iprop(∃ d, owns (c : Thread nD τ) ((cfg0.win 12).stage (cfg0.slots t 12)) fullShare ((dats m 0 c).before 12 t d))
          | true => owns (c : Thread nD τ) ((cfg0.win 12).stage (cfg0.slots t 12)) fullShare ((dats m 0 c).after 12 t)
        | false => owns (c : Thread nD τ) ((cfg0.win 12).stage (cfg0.slots t 12)) fullShare ((dats m 0 c).after 12 t) : sProp 𝕄) := by
  rw [idle0_12]
  by_cases h : t.val = 0
  · simp only [h, decide_true, Bool.not_true]
    exact .rfl
  · simp only [h, decide_false, Bool.not_false]
    cases (cfg0.win 12).flush t
    · simp only [before0_12 m c t h, after0_12]
      iintro H
      iexists (fun _ => default)
      iexact H
    · exact .rfl

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t))

set_option maxHeartbeats 4000000 in
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5, before0_6]
  rw [show (dats m 0 c).owesAt () t.succ = (dats m 0 c).owesAt () t.castSucc from rfl,
    after0_0, after0_1, after0_2, after0_3, after0_4, after0_5, after0_6, after0_7, after0_8, after0_9, after0_10, after0_11, after0_12]
  rw [show (dats m 0 c).Φ t.succ = PhiS m c (t.val + 1) from rfl, PhiS_pos m c (t.val + 1) (by omega),
    show (dats m 0 c).Φ t.castSucc = PhiS m c t.val from rfl]
  by_cases hz : t.val = 0
  · obtain rfl : t = t0 := Fin.ext hz
    rw [show PhiS m c (t0 : Fin cfg0.N).val = Pipeline.ΦA spec0 c from rfl, PhiA0_eq]
    iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply (body_of_open c (grid0.coords t0) _ _ _ _ _ _ _ _ _ _ _ _ _ _ _ _ _ _ _ _ _ _ _ _ _ _ _ _ _ _ _ _ (iblk m c 0 t0) (iblk m c 1 t0) (iblk m c 2 t0) (iblk m c 3 t0) (iblk m c 4 t0) (iblk m c 5 t0) (iblk m c 6 t0) _ _ _ _ _ Set.univ _
      (open_first (F := Ideal) c (grid0.coords t0) _ _ _ _ _ _ _ _ _ _ _ _ _ _ _ _ _ _ _ _ _ _ _ _ _ _ _ _ _ _ _ _ (iblk m c 0 t0) (iblk m c 1 t0) (iblk m c 2 t0) (iblk m c 3 t0) (iblk m c 4 t0) (iblk m c 5 t0) (iblk m c 6 t0) ((isFirst_iff t0).mpr rfl) Set.univ) _)
    isplitl [H0 H1 H2 H3 H4 H5 H6 H10 H11 H12 HS0 HS1 HS2]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H10]; · iexists _; iexact H10
      isplitl [H11]; · iexists _; iexact H11
      isplitl [H12]; · iexists _; iexact H12
      isplitl [HS0]; · iexact HS0
      isplitl [HS1]; · iexact HS1
      iexact HS2
    isplitl [H7]; · iexists _; iexact H7
    isplitl [H8]; · iexists _; iexact H8
    isplitl [H9]; · iexists _; iexact H9
    unfold closed
    iintro ⟨H0, H1, H2, H3, H4, H5, H6, H7, H8, H9, H10, H11, H12, HS0, HS1, HS2⟩
    isplitl [HS0 HS1 HS2 Hg]
    · isplitl [HS0 HS1 HS2]
      · isplitl [HS0]; · iexact HS0
        isplitl [HS1]; · iexact HS1
        iexists _; iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12
  · rw [PhiS_pos m c _ hz]
    simp only [before0_10 m c t hz, before0_11 m c t hz, before0_12 m c t hz]
    iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply (body_of_open c (grid0.coords t) _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) _ _ _ _ _ Set.univ _
      (open_later (F := Ideal) c (grid0.coords t) _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (fun h => hz ((isFirst_iff t).mp h)) (qCodes m c) (qDelta m c) (qVl m c) (qLhs m c) (qRow m c) Set.univ) _)
    isplitl [H0 H1 H2 H3 H4 H5 H6 H10 H11 H12 HS0 HS1 HS2]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H10]; · iexact H10
      isplitl [H11]; · iexact H11
      isplitl [H12]; · iexact H12
      isplitl [HS0]; · iexact HS0
      isplitl [HS1]; · iexact HS1
      iexact HS2
    isplitl [H7]; · iexists _; iexact H7
    isplitl [H8]; · iexists _; iexact H8
    isplitl [H9]; · iexists _; iexact H9
    unfold closed
    iintro ⟨H0, H1, H2, H3, H4, H5, H6, H7, H8, H9, H10, H11, H12, HS0, HS1, HS2⟩
    isplitl [HS0 HS1 HS2 Hg]
    · isplitl [HS0 HS1 HS2]
      · isplitl [HS0]; · iexact HS0
        isplitl [HS1]; · iexact HS1
        iexists _; iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12

end Cert.KernelIdeal.Body

end
-- ==== Proof.Body.Run.lean ====
/- The body obligation, the run with every array's contents at the end, and the frame. -/
module

public import proofs.«01_k».proof.Proof.Body.Point

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen
open Cert.KernelIdeal.Facts

local notation "𝕄" => MT nD τ sig Unit (Elt Ideal) ℕ (UR sig nD τ) ℕ

variable (m : (ℓ : Loc nD τ sig) → Buf (Elt Ideal) ℓ) (ρ : Dev nD → PrngReg)

theorem defs₀_row (t : Fin cfg0.N) :
    defs₀ (F := Ideal) .tc cfg0.body (cfg0.bodyArgs t (cfg0.slots t)) = bodyAt0 t := by
  unfold defs₀; rw [Defs.onTc_tc]

theorem leaves_of_after (c : Dev nD) (t : Fin cfg0.N) (w : Fin cfg0.W) (h : cfg0.idle w (cfg0.grid.coords t) = false) :
    owns (c : Thread nD τ) ((cfg0.win w).stage (cfg0.slots t w)) fullShare ((dats m 0 c).after w t) ⊢ ((dats m 0 c).leavesExact w t : sProp 𝕄) := by
  unfold Dat.leavesExact
  rw [h]

/-- What the body leaves in a window's buffer, as the pipeline asks for it. -/
theorem leaves (c : Dev nD) (t : Fin cfg0.N) : (w : Fin cfg0.W) →
    (owns (c : Thread nD τ) ((cfg0.win w).stage (cfg0.slots t w)) fullShare ((dats m 0 c).after w t) ⊢ ((dats m 0 c).leavesExact w t : sProp 𝕄))
  | 0 => leaves_of_after m c t 0 rfl | 1 => leaves_of_after m c t 1 rfl | 2 => leaves_of_after m c t 2 rfl
  | 3 => leaves_of_after m c t 3 rfl | 4 => leaves_of_after m c t 4 rfl | 5 => leaves_of_after m c t 5 rfl
  | 6 => leaves_of_after m c t 6 rfl | 7 => leaves_of_after m c t 7 rfl | 8 => leaves_of_after m c t 8 rfl
  | 9 => leaves_of_after m c t 9 rfl | 10 => leave0_10 m c t | 11 => leave0_11 m c t | 12 => leave0_12 m c t

theorem pre_row (c : Dev nD) (t : Fin cfg0.N) :
    (iprop((dats m 0 c).Φ t.castSucc ∗ (dats m 0 c).owesAt () t.castSucc
        ∗ bigSep Finset.univ fun w : Fin cfg0.W => iprop(∃ d, owns (c : Thread nD τ) ((cfg0.win w).stage (cfg0.slots t w)) fullShare ((dats m 0 c).before w t d))) : sProp 𝕄)
      ⊢ bodyPre m c t := by
  rw [bigSep_W0]
  exact Entails.rfl

theorem post_row (c : Dev nD) (t : Fin cfg0.N) :
    bodyPost m c t ⊢ (iprop((dats m 0 c).Φ t.succ ∗ (dats m 0 c).owesAt () t.succ
        ∗ bigSep Finset.univ fun w : Fin cfg0.W => owns (c : Thread nD τ) ((cfg0.win w).stage (cfg0.slots t w)) fullShare ((dats m 0 c).after w t)) : sProp 𝕄) := by
  rw [bigSep_W0]
  exact Entails.rfl

theorem post_leaves (c : Dev nD) (t : Fin cfg0.N) :
    bodyPost m c t ⊢ (iprop((dats m 0 c).Φ t.succ ∗ (dats m 0 c).owesAt () t.succ
        ∗ bigSep Finset.univ fun w : Fin cfg0.W => (dats m 0 c).leavesExact w t) : sProp 𝕄) :=
  (post_row m c t).trans (sep_mono Entails.rfl (sep_mono Entails.rfl (bigSep_mono fun w _ => leaves m c t w)))

theorem body_obligation (c : Dev nD) : BodyObligation (dats m 0 c) (defs₀ (F := Ideal)) Variants.none () Set.univ := fun t => by
  rw [defs₀_row]
  exact triple_restated (sound_body m c t) rfl (pre_row m c t) fun _ => post_leaves m c t

theorem hin (c : Dev nD) : Pipeline.ΦA spec0 c ⊢ (dats m 0 c).Φ 0 := by
  rw [show (dats m 0 c).Φ 0 = Pipeline.ΦA spec0 c from rfl]
  try exact Idealize.SL.BI.Entails.refl _

theorem hout (c : Dev nD) : (dats m 0 c).Φ (Fin.last cfg0.N) ⊢ Pipeline.ΦA spec0 c := by
  rw [show (dats m 0 c).Φ (Fin.last cfg0.N) = PhiS m c cfg0.N from rfl,
    PhiS_pos m c _ (by have : cfg0.N = 128 := N_0; omega), PhiA0_eq]
  iintro ⟨⟨HS0, HS1, HS2⟩, Hg⟩
  isplitl [HS0 HS1 HS2]
  · isplitl [HS0]
    · iexists _; iexact HS0
    isplitl [HS1]
    · iexists _; iexact HS1
    iexact HS2
  iexact Hg

/-! ## The run and the frame -/

set_option backward.isDefEq.respectTransparency.types false in
set_option maxHeartbeats 800000 in
/-- Every execution terminates with every array of the pipeline at what the proof data say, every other buffer as the lines
    after the region leave it, and every semaphore counter at zero. -/
theorem run_main_quiescent : θ_run defs (onTc (τ := τ) (main (F := Ideal))) (s₀ m ρ) (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

theorem run_main : θ_run defs (onTc (τ := τ) (main (F := Ideal))) (s₀ m ρ) (Pipeline.FramePost cfgs (dats m) 0 (Pipeline.afterTail₀ cfgs (dats m) 0 (V0 m) [hostOps1])) :=
  (θ_run defs _ _).mono (fun _ h => h.1) (run_main_quiescent m ρ)

/-- The frame: the arguments end unchanged and the counters at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (dats m) (A_eq m) (run_main m ρ)) ((θ_run defs _ _).mono (fun _ h => h.2) (run_main_quiescent m ρ))

end Cert.KernelIdeal.Body

end
-- ==== Proof.Value.Blocks.lean ====
/- The blocks a grid point finds, as entries of the argument arrays. -/
module

public import proofs.«01_k».proof.Proof.Body.Point
public import Idealize.ShloMosaic.Lib.Claim

@[expose] public section

set_option maxRecDepth 16384

noncomputable section

namespace Cert.KernelIdeal.Body

open Idealize.ShloMosaic Idealize.ShloMosaic.TcCoe Idealize.ShloMosaic.Tactic Idealize.SL.Sem
open Idealize.ShloMosaic.Pipeline (Dat)
open Cert.KernelIdeal.Gen
open Cert.KernelIdeal.Facts

variable (m : (ℓ : Loc nD τ sig) → Buf (Elt Ideal) ℓ) (c : Dev nD)

/-- The windows' block indices. -/
theorem idx_val : ∀ t : Fin cfg0.N, win0_0.index t = ![0, 0] ∧ win0_1.index t = ![0, 0] ∧ win0_2.index t = ![0, 0]
    ∧ win0_3.index t = ![0, 0] ∧ win0_4.index t = ![0, t.val] ∧ win0_5.index t = ![t.val, 0] ∧ win0_6.index t = ![t.val, 0]
    ∧ win0_7.index t = ![0, t.val] ∧ win0_8.index t = ![0, t.val] ∧ win0_9.index t = ![0, t.val]
    ∧ win0_10.index t = ![0, 0] ∧ win0_11.index t = ![0, 0] ∧ win0_12.index t = ![0, 0] :=
  (by decide +kernel : ∀ t : Fin grid0.N, _)

/-- The arguments, at the types their formulas take. -/
abbrev argX : FVec Ideal S80x256 .f32 := m ((c : Thread nD τ).loc main_arg0)
abbrev argC : FVec Ideal S256 .f32 := m ((c : Thread nD τ).loc main_arg1)
abbrev argR : FVec Ideal S256x256 .f32 := m ((c : Thread nD τ).loc main_arg2)
abbrev argO : FVec Ideal S80x256 .f32 := m ((c : Thread nD τ).loc main_arg3)
abbrev argW : IVec S524288x8 32 := m ((c : Thread nD τ).loc main_arg4)
abbrev argN : FVec Ideal S524288 .f32 := m ((c : Thread nD τ).loc main_arg5)
abbrev argP : FVec Ideal S524288 .f32 := m ((c : Thread nD τ).loc main_arg6)

theorem blk0 (t : Fin cfg0.N) : iblk m c 0 t = argX m c := by blk_ext! [iblk, V, idx_val t]
theorem blk2 (t : Fin cfg0.N) : iblk m c 2 t = argR m c := by blk_ext! [iblk, V, idx_val t]
theorem blk3 (t : Fin cfg0.N) : iblk m c 3 t = argO m c := by blk_ext! [iblk, V, idx_val t]

/-- What the host lines before the region leave in the four operands they produce. -/
theorem V_centroid (d : Fin 256) : (show FVec Ideal S1x256 .f32 from V m c main_v0) (ix2 0 d) = argC m c (ix1 d) := by
  unfold V V0 hostOps0
  simp only [List.flatten_cons, List.flatten_nil, List.append_nil, List.cons_append, List.nil_append]
  after_results
  pointwise

theorem V_words (a : Fin 8) (n : Fin 524288) :
    (show IVec S8x524288 32 from V m c main_v1) (ix2 a n) = argW m c (ix2 n a) := by
  unfold V V0 hostOps0
  simp only [List.flatten_cons, List.flatten_nil, List.append_nil, List.cons_append, List.nil_append]
  after_results
  pointwise

theorem V_norms (a : Fin 4096) (k : Fin 128) (n : Fin 524288) (h : n.val = a.val * 128 + k.val) :
    (show FVec Ideal S4096x128 .f32 from V m c main_v2) (ix2 a k) = argN m c (ix1 n) := by
  unfold V V0 hostOps0
  simp only [List.flatten_cons, List.flatten_nil, List.append_nil, List.cons_append, List.nil_append]
  after_results
  pointwise
  blk_ext! []

theorem V_inner (a : Fin 4096) (k : Fin 128) (n : Fin 524288) (h : n.val = a.val * 128 + k.val) :
    (show FVec Ideal S4096x128 .f32 from V m c main_v3) (ix2 a k) = argP m c (ix1 n) := by
  unfold V V0 hostOps0
  simp only [List.flatten_cons, List.flatten_nil, List.append_nil, List.cons_append, List.nil_append]
  after_results
  pointwise
  blk_ext! []

theorem blk1 (t : Fin cfg0.N) (d : Fin 256) : (show FVec Ideal S1x256 .f32 from iblk m c 1 t) (ix2 0 d) = argC m c (ix1 d) := by
  refine Eq.trans ?_ (V_centroid m c d)
  blk_ext! [iblk, idx_val t]

theorem blk4 (t : Fin cfg0.N) (a : Fin 8) (k : Fin 4096) (n : Fin 524288) (h : n.val = t.val * 4096 + k.val) :
    (show IVec S8x4096 32 from iblk m c 4 t) (ix2 a k) = argW m c (ix2 n a) := by
  refine Eq.trans ?_ (V_words m c a n)
  blk_ext! [iblk, idx_val t]

theorem blk5 (t : Fin cfg0.N) (a : Fin 32) (k : Fin 128) (n : Fin 524288) (h : n.val = t.val * 4096 + a.val * 128 + k.val) :
    (show FVec Ideal S32x128 .f32 from iblk m c 5 t) (ix2 a k) = argN m c (ix1 n) := by
  have ht : t.val < 128 := t.isLt
  refine Eq.trans ?_ (V_norms m c ⟨t.val * 32 + a.val, by omega⟩ k n (by show n.val = (t.val * 32 + a.val) * 128 + k.val; omega))
  blk_ext! [iblk, idx_val t]

theorem blk6 (t : Fin cfg0.N) (a : Fin 32) (k : Fin 128) (n : Fin 524288) (h : n.val = t.val * 4096 + a.val * 128 + k.val) :
    (show FVec Ideal S32x128 .f32 from iblk m c 6 t) (ix2 a k) = argP m c (ix1 n) := by
  have ht : t.val < 128 := t.isLt
  refine Eq.trans ?_ (V_inner m c ⟨t.val * 32 + a.val, by omega⟩ k n (by show n.val = (t.val * 32 + a.val) * 128 + k.val; omega))
  blk_ext! [iblk, idx_val t]

end Cert.KernelIdeal.Body

end
-- ==== Proof.Value.Spec.lean ====
/- The estimator over the extended reals, as formulas in the entries of its arguments, and the few facts of arithmetic
   by which the kernel's order of operations and the reference's give the same numbers. -/
module

public import Idealize.ShloMosaic.Lib.Pointwise

@[expose] public section

set_option maxRecDepth 16384

noncomputable section

namespace Cert.Spec

open Idealize.ShloMosaic

/-! ## Numbers that are neither infinity -/

/-- A real number. -/
def Fin' (a : EReal) : Prop := ∃ t : ℝ, a = (t : EReal)

theorem fin_of_ne {a : EReal} (h : a ≠ ⊤) (h' : a ≠ ⊥) : Fin' a := ⟨a.toReal, (EReal.coe_toReal h h').symm⟩

theorem Fin'.add {a b : EReal} (ha : Fin' a) (hb : Fin' b) : Fin' (a + b) := by
  obtain ⟨s, rfl⟩ := ha; obtain ⟨t, rfl⟩ := hb; exact ⟨s + t, (EReal.coe_add s t).symm⟩

theorem Fin'.sub {a b : EReal} (ha : Fin' a) (hb : Fin' b) : Fin' (a - b) := by
  obtain ⟨s, rfl⟩ := ha; obtain ⟨t, rfl⟩ := hb; exact ⟨s - t, (EReal.coe_sub s t).symm⟩

theorem Fin'.mul {a b : EReal} (ha : Fin' a) (hb : Fin' b) : Fin' (a * b) := by
  obtain ⟨s, rfl⟩ := ha; obtain ⟨t, rfl⟩ := hb; exact ⟨s * t, (EReal.coe_mul s t).symm⟩

theorem fin_zero : Fin' 0 := ⟨0, rfl⟩

theorem Fin'.div {a b : EReal} (ha : Fin' a) (hb : Fin' b) (h : b ≠ 0) : Fin' (Ideal.div a b) := by
  obtain ⟨t, rfl⟩ := hb
  have ht : t ≠ 0 := by rintro rfl; exact h rfl
  rw [Ideal.div_coe ht]
  exact ha.mul ⟨_, rfl⟩

theorem coe_sum {n : ℕ} (s : Finset (Fin n)) (g : Fin n → ℝ) : ((∑ i ∈ s, g i : ℝ) : EReal) = ∑ i ∈ s, (g i : EReal) := by
  induction s using Finset.induction_on with
  | empty => rfl
  | insert a s ha ih => rw [Finset.sum_insert ha, Finset.sum_insert ha, EReal.coe_add, ih]

theorem fin_sum {n : ℕ} {f : Fin n → EReal} (h : ∀ i, Fin' (f i)) : Fin' (∑ i, f i) := by
  choose g hg using h
  refine ⟨∑ i, g i, ?_⟩
  rw [coe_sum]
  exact Finset.sum_congr rfl fun i _ => hg i

/-- Taking two real numbers away one after the other is taking their sum away. -/
theorem sub_add_fin (a : EReal) {b c : EReal} (hb : Fin' b) (hc : Fin' c) : a - (b + c) = a - b - c := by
  obtain ⟨s, rfl⟩ := hb; obtain ⟨t, rfl⟩ := hc
  rw [sub_eq_add_neg, sub_eq_add_neg, sub_eq_add_neg, EReal.neg_add (.inl (EReal.coe_ne_bot _)) (.inl (EReal.coe_ne_top _)),
    sub_eq_add_neg, add_assoc]

/-- Away from zero a quotient is the product with the quotient of one. -/
theorem mul_div_one (a : EReal) {b : EReal} (h : b ≠ 0) : a * Ideal.div 1 b = Ideal.div a b := by
  simp only [Ideal.div, if_neg h, one_mul]

/-! ## Constants -/

/-- The largest code, as the programs write it. -/
abbrev qmax : EReal := Ideal.ofBits .f32 0x41700000#32
/-- The square root of the dimension. -/
abbrev sd : EReal := Ideal.ofBits .f32 0x41800000#32
/-- Two. -/
abbrev two : EReal := Ideal.ofBits .f32 0x40000000#32
/-- The confidence factor of the error bound. -/
abbrev conf : EReal := Ideal.ofBits .f32 0x3E73AD28#32

theorem qmax_eq : qmax = ((15 : ℝ) : EReal) := by
  simp [qmax, Ideal.ofBits, Ideal.ieee, -EReal.coe_mul]; norm_num
theorem sd_eq : sd = ((16 : ℝ) : EReal) := by
  simp [sd, Ideal.ofBits, Ideal.ieee, -EReal.coe_mul]; norm_num
theorem half_eq : Ideal.ofBits .f32 0x3F000000#32 = ((1 / 2 : ℝ) : EReal) := by
  simp [Ideal.ofBits, Ideal.ieee, -EReal.coe_mul]; norm_num
theorem top_eq : Ideal.ofBits .f32 0x7F800000#32 = ⊤ := by simp [Ideal.ofBits, Ideal.ieee]
theorem bot_eq : Ideal.ofBits .f32 0xFF800000#32 = ⊥ := by simp [Ideal.ofBits, Ideal.ieee]

/-! ## The formulas -/

section
variable (x : Fin 80 → Fin 256 → EReal) (c : Fin 256 → EReal) (r : Fin 256 → Fin 256 → EReal) (o : Fin 80 → Fin 256 → EReal)

/-- The squared norm of a query's residual. -/
def ss (j : Fin 80) : EReal := ∑ d, (x j d - c d) * (x j d - c d)
/-- The norm. -/
def nrm (j : Fin 80) : EReal := Ideal.sqrt (ss x c j)
/-- The rotated unit residual. -/
def qr (j : Fin 80) (e : Fin 256) : EReal := ∑ d, Ideal.div (x j d - c d) (nrm x c j) * r d e
/-- Its least entry. -/
def lo (j : Fin 80) : EReal := Finset.fold min (Ideal.ofBits .f32 0x7F800000#32) (fun e => qr x c r j e) Finset.univ
/-- Its greatest entry. -/
def hi (j : Fin 80) : EReal := Finset.fold max (Ideal.ofBits .f32 0xFF800000#32) (fun e => qr x c r j e) Finset.univ
/-- The step of the quantiser. -/
def step (j : Fin 80) : EReal := Ideal.div (hi x c r j - lo x c r j) qmax
/-- The quantised entry, as a number. -/
def qv (j : Fin 80) (e : Fin 256) : EReal :=
  min qmax (max 0 (Ideal.liftRound Int.floor (Ideal.div (qr x c r j e - lo x c r j) (step x c r j) + o j e)))
/-- The code. -/
def code (j : Fin 80) (e : Fin 256) : BitVec 8 := (Ideal.fptosi 32 (qv x c r o j e)).setWidth 8
/-- The sum of a query's codes. -/
def sumq (j : Fin 80) : EReal := ∑ e, qv x c r o j e
/-- The product of a query's codes with a column's bits. -/
def dotb (w : Fin 8 → BitVec 32) (j : Fin 80) : EReal :=
  ∑ e : Fin 256, qv x c r o j e * (if (w (⟨e.val / 32, by omega⟩ : Fin 8)).getLsbD (e.val % 32) then 1 else 0)
/-- The number of set bits of a column. -/
def pop (w : Fin 8 → BitVec 32) : EReal :=
  FloatOps.sitofp (F := Ideal) .f32 (Finset.fold IntOp.addi 0#32 (fun a : Fin 8 => IntOp.ctpop (w a)) Finset.univ)
/-- The estimate of the inner product. -/
def est (w : Fin 8 → BitVec 32) (oo : EReal) (j : Fin 80) : EReal :=
  Ideal.div (Ideal.div (two * step x c r j) sd * dotb x c r o w j + Ideal.div (two * lo x c r j) sd * pop w
    - Ideal.div (step x c r j) sd * sumq x c r o j - sd * lo x c r j) oo
/-- The estimate of the distance. -/
def dist (w : Fin 8 → BitVec 32) (dn oo : EReal) (j : Fin 80) : EReal :=
  dn * dn + nrm x c j * nrm x c j - two * (dn * nrm x c j) * est x c r o w oo j
/-- The error bound. -/
def bnd (dn oo : EReal) (j : Fin 80) : EReal := dn * nrm x c j * Ideal.div (Ideal.sqrt (1 - oo * oo)) oo * conf

/-! ## The codes are whole numbers between 0 and 15 -/

theorem qv_nat (j : Fin 80) (e : Fin 256) : ∃ n : ℕ, n ≤ 15 ∧ qv x c r o j e = ((n : ℝ) : EReal) := by
  unfold qv
  rw [qmax_eq]
  generalize Ideal.div (qr x c r j e - lo x c r j) (step x c r j) + o j e = z
  induction z using EReal.rec with
  | bot => exact ⟨0, by omega, by simp⟩
  | top => exact ⟨15, by omega, by simp⟩
  | coe z =>
    rw [Ideal.liftRound_coe]
    refine ⟨(min 15 (max 0 ⌊z⌋)).toNat, by omega, ?_⟩
    have h : (((min 15 (max 0 ⌊z⌋)).toNat : ℕ) : ℝ) = ((min 15 (max 0 ⌊z⌋) : ℤ) : ℝ) := by
      rw [← Int.cast_natCast, Int.toNat_of_nonneg (by omega)]
    rw [h]
    push_cast
    rw [EReal.coe_strictMono.monotone.map_min, EReal.coe_strictMono.monotone.map_max]
    rfl

/-- The entry as a natural number. -/
def qn (j : Fin 80) (e : Fin 256) : ℕ := (qv_nat x c r o j e).choose
theorem qn_le (j : Fin 80) (e : Fin 256) : qn x c r o j e ≤ 15 := (qv_nat x c r o j e).choose_spec.1
theorem qv_eq (j : Fin 80) (e : Fin 256) : qv x c r o j e = ((qn x c r o j e : ℝ) : EReal) := (qv_nat x c r o j e).choose_spec.2

theorem fptosi_nat (n : ℕ) (h : n ≤ 15) : Ideal.fptosi 32 ((n : ℝ) : EReal) = BitVec.ofNat 32 n := by
  simp only [Ideal.fptosi, Ideal.toIntClamped_coe, Nat.cast_nonneg, if_true, Int.floor_natCast]
  rw [min_eq_right (by omega), max_eq_right (by omega)]
  exact BitVec.ofInt_natCast 32 n

theorem code_eq (j : Fin 80) (e : Fin 256) : code x c r o j e = BitVec.ofNat 8 (qn x c r o j e) := by
  have h := qn_le x c r o j e
  rw [code, qv_eq, fptosi_nat _ h]
  apply BitVec.eq_of_toNat_eq
  simp

/-- The code widened again and read as a number is the quantised entry. -/
theorem code_num (j : Fin 80) (e : Fin 256) : ((((code x c r o j e).setWidth 32).toInt : ℝ) : EReal) = qv x c r o j e := by
  have h := qn_le x c r o j e
  rw [code_eq, qv_eq]
  congr 1
  have : ((BitVec.ofNat 8 (qn x c r o j e)).setWidth 32).toInt = (qn x c r o j e : ℤ) := by
    rw [BitVec.toInt_eq_toNat_of_lt] <;> simp <;> omega
  rw [this]; norm_cast

theorem fold_addi {n : ℕ} (f : Fin n → ℕ) (s : Finset (Fin n)) :
    Finset.fold IntOp.addi 0#32 (fun e => BitVec.ofNat 32 (f e)) s = BitVec.ofNat 32 (∑ e ∈ s, f e) := by
  induction s using Finset.induction_on with
  | empty => rfl
  | insert a s ha ih =>
    rw [Finset.fold_insert ha, ih, Finset.sum_insert ha, BitVec.ofNat_add]
    rfl

theorem toInt_small (n : ℕ) (h : n ≤ 256 * 15) : (BitVec.ofNat 32 n).toInt = (n : ℤ) := by
  rw [BitVec.toInt_eq_toNat_of_lt] <;> simp <;> omega

theorem sum_nat (q : Fin 256 → ℕ) (hq : ∀ e, q e ≤ 15) :
    (((Finset.fold IntOp.addi 0#32 (fun e => BitVec.ofNat 32 (q e)) Finset.univ : BitVec 32).toInt : ℝ) : EReal)
      = ∑ e, ((q e : ℝ) : EReal) := by
  have hb : ∑ e, q e ≤ 256 * 15 := by
    refine (Finset.sum_le_card_nsmul _ _ 15 fun e _ => hq e).trans ?_
    rw [Finset.card_univ, Fintype.card_fin, smul_eq_mul]
  rw [fold_addi, toInt_small _ hb, ← coe_sum, Int.cast_natCast, Nat.cast_sum]

/-- The integer sum of a query's codes is the sum of its quantised entries. -/
theorem sum_codes (j : Fin 80) :
    (((Finset.fold IntOp.addi 0#32 (fun e => (code x c r o j e).setWidth 32) Finset.univ : BitVec 32).toInt : ℝ) : EReal)
      = sumq x c r o j := by
  have h : (fun e => (code x c r o j e).setWidth 32) = fun e => BitVec.ofNat 32 (qn x c r o j e) := funext fun e => by
    have := qn_le x c r o j e
    rw [code_eq]; apply BitVec.eq_of_toNat_eq; simp; omega
  have h' : (fun e => qv x c r o j e) = fun e => ((qn x c r o j e : ℝ) : EReal) := funext fun e => qv_eq x c r o j e
  rw [h, sum_nat _ (fun e => qn_le x c r o j e), sumq, h']

theorem fin_sumq (j : Fin 80) : Fin' (sumq x c r o j) := fin_sum fun e => ⟨_, qv_eq x c r o j e⟩

/-! ## Where the step and the offset are real numbers -/

/-- A square is not negative. -/
theorem sq_nonneg' (a : EReal) : 0 ≤ a * a := by
  induction a using EReal.rec with
  | bot => rw [EReal.bot_mul_bot]; exact le_top
  | top => rw [EReal.top_mul_top]; exact le_top
  | coe t => rw [← EReal.coe_mul]; exact_mod_cast mul_self_nonneg t

theorem fin_unit (j : Fin 80) (h : 0 < ss x c j) (d : Fin 256) : Fin' (Ideal.div (x j d - c d) (nrm x c j)) := by
  by_cases ht : ss x c j = ⊤
  · have hn : nrm x c j = ⊤ := by rw [nrm, ht, Ideal.sqrt_top]
    rw [hn, Ideal.div, if_neg (by simp), EReal.inv_top, mul_zero]
    exact fin_zero
  · obtain ⟨s, hs⟩ := fin_of_ne ht (ne_bot_of_gt h)
    have hs0 : 0 < s := by rw [hs] at h; exact_mod_cast h
    have hn : nrm x c j = ((Real.sqrt s : ℝ) : EReal) := by
      rw [nrm, hs, Ideal.sqrt_coe, if_neg (not_lt.2 hs0.le)]
    have hsq : (x j d - c d) * (x j d - c d) ≤ ss x c j :=
      Finset.single_le_sum (f := fun d => (x j d - c d) * (x j d - c d)) (fun i _ => sq_nonneg' _) (Finset.mem_univ d)
    refine Fin'.div ?_ ⟨_, hn⟩ ?_
    · generalize x j d - c d = z at hsq
      refine fin_of_ne ?_ ?_
      · rintro rfl; rw [EReal.top_mul_top, top_le_iff] at hsq; exact ht hsq
      · rintro rfl; rw [EReal.bot_mul_bot, top_le_iff] at hsq; exact ht hsq
    · rw [hn]
      have := Real.sqrt_pos.2 hs0
      exact_mod_cast this.ne'

theorem fin_qr (j : Fin 80) (h : 0 < ss x c j) (hr : ∀ d e, Fin' (r d e)) (e : Fin 256) : Fin' (qr x c r j e) :=
  fin_sum fun d => (fin_unit x c j h d).mul (hr d e)

theorem fin_lo (j : Fin 80) (h : 0 < ss x c j) (hr : ∀ d e, Fin' (r d e)) : Fin' (lo x c r j) := by
  have hq := fin_qr x c r j h hr
  unfold lo
  rw [top_eq]
  refine fin_of_ne (ne_of_lt ?_) (ne_of_gt ?_)
  · refine (Finset.fold_min_lt _).2 (.inr ⟨0, Finset.mem_univ _, ?_⟩)
    obtain ⟨t, ht⟩ := hq 0; rw [ht]; exact EReal.coe_lt_top t
  · refine (Finset.lt_fold_min _).2 ⟨bot_lt_top, fun e _ => ?_⟩
    obtain ⟨t, ht⟩ := hq e; rw [ht]; exact EReal.bot_lt_coe t

theorem fin_hi (j : Fin 80) (h : 0 < ss x c j) (hr : ∀ d e, Fin' (r d e)) : Fin' (hi x c r j) := by
  have hq := fin_qr x c r j h hr
  unfold hi
  rw [bot_eq]
  refine fin_of_ne (ne_of_lt ?_) (ne_of_gt ?_)
  · refine (Finset.fold_max_lt _).2 ⟨bot_lt_top, fun e _ => ?_⟩
    obtain ⟨t, ht⟩ := hq e; rw [ht]; exact EReal.coe_lt_top t
  · refine (Finset.lt_fold_max _).2 (.inr ⟨0, Finset.mem_univ _, ?_⟩)
    obtain ⟨t, ht⟩ := hq 0; rw [ht]; exact EReal.bot_lt_coe t

theorem fin_step (j : Fin 80) (h : 0 < ss x c j) (hr : ∀ d e, Fin' (r d e)) : Fin' (step x c r j) := by
  refine ((fin_hi x c r j h hr).sub (fin_lo x c r j h hr)).div ⟨15, qmax_eq⟩ ?_
  rw [qmax_eq]; exact_mod_cast (by norm_num : (15 : ℝ) ≠ 0)

/-! ## The order of the bits -/

/-- Where the kernel's bit `d` comes from. -/
def src (d : Fin 256) : Fin 256 := ⟨16 * (d.val % 16) + d.val / 16, by omega⟩
theorem src_src (d : Fin 256) : src (src d) = d := by apply Fin.ext; simp only [src]; omega

/-- The halved codes in the kernel's order times its bits (2 or 0) are the codes times the bits (1 or 0). -/
theorem dot_src (w : Fin 8 → BitVec 32) (j : Fin 80) :
    ∑ d : Fin 256, qv x c r o j (src d) * ((1 / 2 : ℝ) : EReal)
        * (if (w (⟨d.val % 16 / 2, by omega⟩ : Fin 8)).getLsbD (d.val / 16 + 16 * (d.val % 2)) then 2 else 0)
      = dotb x c r o w j := by
  unfold dotb
  refine Finset.sum_bij (fun d _ => src d) (fun _ _ => Finset.mem_univ _)
    (fun a _ b _ h => by rw [← src_src a, h, src_src]) (fun b _ => ⟨src b, Finset.mem_univ _, src_src b⟩) fun d _ => ?_
  rw [mul_assoc]
  congr 1
  have e1 : (⟨(src d).val / 32, by omega⟩ : Fin 8) = ⟨d.val % 16 / 2, by omega⟩ := by
    apply Fin.ext; simp only [src]; omega
  have e2 : (src d).val % 32 = d.val / 16 + 16 * (d.val % 2) := by simp only [src]; omega
  rw [e1, e2]
  split
  · have : (2 : EReal) = ((2 : ℝ) : EReal) := rfl
    rw [this, ← EReal.coe_mul]; norm_num
  · rw [mul_zero]

/-! ## The kernel's order of operations -/

/-- The estimate as the kernel forms it: one number per query taken away, and a product with a reciprocal. -/
theorem est_kernel (w : Fin 8 → BitVec 32) (oo : EReal) (j : Fin 80) (h : 0 < ss x c j) (hr : ∀ d e, Fin' (r d e)) (ho : oo ≠ 0) :
    (Ideal.div (two * step x c r j) sd * dotb x c r o w j + Ideal.div (two * lo x c r j) sd * pop w
      - (Ideal.div (step x c r j) sd * sumq x c r o j + sd * lo x c r j)) * Ideal.div 1 oo = est x c r o w oo j := by
  have hsd : sd ≠ 0 := by rw [sd_eq]; exact_mod_cast (by norm_num : (16 : ℝ) ≠ 0)
  rw [sub_add_fin _ (((fin_step x c r j h hr).div ⟨_, sd_eq⟩ hsd).mul (fin_sumq x c r o j))
    (Fin'.mul ⟨_, sd_eq⟩ (fin_lo x c r j h hr)), mul_div_one _ ho]
  rfl

theorem dist_kernel (w : Fin 8 → BitVec 32) (dn oo : EReal) (j : Fin 80) :
    dn * dn + nrm x c j * nrm x c j - two * nrm x c j * dn * est x c r o w oo j = dist x c r o w dn oo j := by
  rw [dist, mul_assoc two, mul_comm (nrm x c j) dn]

theorem bnd_kernel (dn oo : EReal) (j : Fin 80) :
    nrm x c j * (dn * Ideal.div (Ideal.sqrt (1 - oo * oo)) oo * conf) = bnd x c dn oo j := by
  rw [bnd, mul_assoc dn, mul_assoc dn, mul_assoc, ← mul_assoc (nrm x c j), mul_comm (nrm x c j) dn, mul_assoc, mul_assoc]

end

end Cert.Spec

end
-- ==== Proof.Value.Prepared.lean ====
/- What the kernel prepares from the queries and from a block of the database, over the reals: the codes, the quantiser's
   step and offset, the left operand, and the row and column planes are the estimator's formulas. -/
module

public import proofs.«01_k».proof.Proof.Body.Tile
public import proofs.«01_k».proof.Proof.Body.Opening
public import proofs.«01_k».proof.Proof.Value.Spec

@[expose] public section

set_option maxRecDepth 16384

noncomputable section

namespace Cert.KernelIdeal.Body

open Idealize.ShloMosaic Idealize.ShloMosaic.TcCoe Idealize.ShloMosaic.Tactic
open Cert.KernelIdeal.Gen
open Cert.KernelIdeal.Facts

/-- A matrix as a function of its two indices. -/
abbrev mat {a b : ℕ} (v : FVec Ideal ⟨2, ![a, b]⟩ .f32) : Fin a → Fin b → EReal := fun i k => v (ix2 i k)

section Query
variable (x0 : FVec Ideal S80x256 .f32) (x1 : FVec Ideal S1x256 .f32) (x2 : FVec Ideal S256x256 .f32) (x3 : FVec Ideal S80x256 .f32)

theorem res_at (j : Fin 80) (d : Fin 256) : k0_pay2 (F := Ideal) x0 x1 (ix2 j d) = mat x0 j d - mat x1 0 d := by
  pointwise [k0_pay2]

theorem nrm_at (j : Fin 80) : k0_pay3 (F := Ideal) x0 x1 (ix2 j 0) = Spec.nrm (mat x0) (mat x1 0) j := by
  have h := res_at x0 x1
  unfold k0_pay3
  generalize k0_pay2 (F := Ideal) x0 x1 = R at h ⊢
  pointwise
  simp only [h, Spec.nrm, Spec.ss]

theorem qr_at (j : Fin 80) (e : Fin 256) : k0_pay4 (F := Ideal) x0 x1 x2 (ix2 j e) = Spec.qr (mat x0) (mat x1 0) (mat x2) j e := by
  have h := res_at x0 x1
  have h' := nrm_at x0 x1
  unfold k0_pay4
  generalize k0_pay2 (F := Ideal) x0 x1 = R at h ⊢
  generalize k0_pay3 (F := Ideal) x0 x1 = N at h' ⊢
  pointwise
  simp only [h, h', Spec.qr]

theorem lo_at (j : Fin 80) : k0_pay5 (F := Ideal) x0 x1 x2 (ix2 j 0) = Spec.lo (mat x0) (mat x1 0) (mat x2) j := by
  have h := qr_at x0 x1 x2
  unfold k0_pay5
  generalize k0_pay4 (F := Ideal) x0 x1 x2 = R at h ⊢
  pointwise
  simp only [h, Spec.lo]

theorem step_at (j : Fin 80) : k0_pay6 (F := Ideal) x0 x1 x2 (ix2 j 0) = Spec.step (mat x0) (mat x1 0) (mat x2) j := by
  have h := qr_at x0 x1 x2
  have h' := lo_at x0 x1 x2
  unfold k0_pay6
  generalize k0_pay4 (F := Ideal) x0 x1 x2 = R at h ⊢
  generalize k0_pay5 (F := Ideal) x0 x1 x2 = L at h' ⊢
  pointwise
  simp only [h, h', Spec.step, Spec.hi]

theorem qv_at (j : Fin 80) (e : Fin 256) :
    k0_pay7 (F := Ideal) x0 x1 x2 x3 (ix2 j e) = Spec.qv (mat x0) (mat x1 0) (mat x2) (mat x3) j e := by
  have h := qr_at x0 x1 x2
  have h' := lo_at x0 x1 x2
  have h'' := step_at x0 x1 x2
  unfold k0_pay7
  generalize k0_pay4 (F := Ideal) x0 x1 x2 = R at h ⊢
  generalize k0_pay5 (F := Ideal) x0 x1 x2 = L at h' ⊢
  generalize k0_pay6 (F := Ideal) x0 x1 x2 = D at h'' ⊢
  pointwise
  simp only [h, h', h'', Spec.qv]

theorem codes_at (j : Fin 80) (e : Fin 256) :
    codesOf (F := Ideal) x0 x1 x2 x3 (ix2 j e) = Spec.code (mat x0) (mat x1 0) (mat x2) (mat x3) j e := by
  have h := qv_at x0 x1 x2 x3 j e
  have e : codesOf (F := Ideal) x0 x1 x2 x3 (ix2 j e)
      = (Ideal.fptosi 32 (k0_pay7 (F := Ideal) x0 x1 x2 x3 (ix2 j e))).setWidth 8 := rfl
  rw [e, h]
  rfl

theorem sumq_at (j : Fin 80) :
    k0_pay9 (F := Ideal) x0 x1 x2 x3 (ix2 j 0) = Spec.sumq (mat x0) (mat x1 0) (mat x2) (mat x3) j := by
  have h := qv_at x0 x1 x2 x3
  unfold k0_pay9
  generalize k0_pay7 (F := Ideal) x0 x1 x2 x3 = R at h ⊢
  pointwise
  simp only [h, Spec.sumq]

theorem delta_at (j : Fin 80) : deltaOf (F := Ideal) x0 x1 x2 (ix2 0 j) = Spec.step (mat x0) (mat x1 0) (mat x2) j := by
  have h := step_at x0 x1 x2
  unfold deltaOf
  generalize k0_pay6 (F := Ideal) x0 x1 x2 = R at h ⊢
  pointwise [k0_pay22]
  exact h j

theorem vl_at (j : Fin 80) : vlOf (F := Ideal) x0 x1 x2 (ix2 0 j) = Spec.lo (mat x0) (mat x1 0) (mat x2) j := by
  have h := lo_at x0 x1 x2
  unfold vlOf
  generalize k0_pay5 (F := Ideal) x0 x1 x2 = R at h ⊢
  pointwise [k0_pay23]
  exact h j

/-- The place a source position is sent to, as the kernel computes it in integers. -/
def destOf (s : Fin 256) : BitVec 32 := (IntOp.addi
            (IntOp.muli (16#32)
              (Scalar.select
                (IntOp.andi
                  (IntOp.xori
                    (IntOp.cmpi CmpIPredicate.slt
                      (IntOp.remsi ArithUnit.vector (BitVec.ofNat 32 s.val)
                        (Scalar.select (Scalar.cmpi CmpIPredicate.eq 16#32 0#32) 1#32 16#32))
                      0#32)
                    (Scalar.cmpi CmpIPredicate.slt (Scalar.select (Scalar.cmpi CmpIPredicate.eq 16#32 0#32) 1#32 16#32)
                      0#32))
                  (IntOp.cmpi CmpIPredicate.ne
                    (IntOp.remsi ArithUnit.vector (BitVec.ofNat 32 s.val)
                      (Scalar.select (Scalar.cmpi CmpIPredicate.eq 16#32 0#32) 1#32 16#32))
                    0#32))
                (IntOp.addi
                  (IntOp.remsi ArithUnit.vector (BitVec.ofNat 32 s.val)
                    (Scalar.select (Scalar.cmpi CmpIPredicate.eq 16#32 0#32) 1#32 16#32))
                  (Scalar.select (Scalar.cmpi CmpIPredicate.eq 16#32 0#32) 1#32 16#32))
                (IntOp.remsi ArithUnit.vector (BitVec.ofNat 32 s.val)
                  (Scalar.select (Scalar.cmpi CmpIPredicate.eq 16#32 0#32) 1#32 16#32))))
            (Scalar.select
              (IntOp.andi
                (IntOp.cmpi CmpIPredicate.ne
                  (IntOp.subi (BitVec.setWidth 32 (IntOp.cmpi CmpIPredicate.sgt (BitVec.ofNat 32 s.val) 0#32))
                    (BitVec.setWidth 32 (IntOp.cmpi CmpIPredicate.slt (BitVec.ofNat 32 s.val) 0#32)))
                  (Scalar.subi (Scalar.extui (Scalar.cmpi CmpIPredicate.sgt 16#32 0#32))
                    (Scalar.extui (Scalar.cmpi CmpIPredicate.slt 16#32 0#32))))
                (IntOp.cmpi CmpIPredicate.ne (IntOp.remsi ArithUnit.vector (BitVec.ofNat 32 s.val) 16#32) 0#32))
              (IntOp.subi (IntOp.divsi ArithUnit.vector (BitVec.ofNat 32 s.val) 16#32) 1#32)
              (IntOp.divsi ArithUnit.vector (BitVec.ofNat 32 s.val) 16#32)))

theorem destOf_eq : ∀ s : Fin 256, destOf s = BitVec.ofNat 32 (16 * (s.val % 16) + s.val / 16) := by
  decide +kernel

/-- The entry of the permutation matrix: a one where the destination is the source's place. -/
theorem perm_at (s d : Fin 256) : permOf (F := Ideal) (ix2 s d) = if s = Spec.src d then 1 else 0 := by
  have e : permOf (F := Ideal) (ix2 s d)
      = ((((IntOp.cmpi CmpIPredicate.eq (BitVec.ofNat 32 d.val) (destOf s)).setWidth 32).toInt : ℝ) : EReal) := by
    pointwise [permOf, k0_pay10, destOf]
    rfl
  rw [e, destOf_eq]
  by_cases h : s = Spec.src d
  · have hd : d.val = 16 * (s.val % 16) + s.val / 16 := by rw [h]; simp only [Spec.src]; omega
    rw [if_pos h, ← hd]
    simp [IntOp.cmpi]
  · have hd : (BitVec.ofNat 32 d.val == BitVec.ofNat 32 (16 * (s.val % 16) + s.val / 16)) = false := by
      refine beq_eq_false_iff_ne.2 fun hh => h (Fin.ext ?_)
      have hn := congrArg BitVec.toNat hh
      have h1 : 16 * (s.val % 16) + s.val / 16 < 256 := by omega
      rw [BitVec.toNat_ofNat, BitVec.toNat_ofNat, Nat.mod_eq_of_lt (by omega), Nat.mod_eq_of_lt (by omega)] at hn
      show s.val = 16 * (d.val % 16) + d.val / 16
      omega
    rw [if_neg h]
    simp [IntOp.cmpi, hd]

theorem lhs_at (j : Fin 80) (d : Fin 256) :
    lhsOf (F := Ideal) x0 x1 x2 x3 (ix2 j d)
      = Spec.qv (mat x0) (mat x1 0) (mat x2) (mat x3) j (Spec.src d) * ((1 / 2 : ℝ) : EReal) := by
  have h := qv_at x0 x1 x2 x3
  have h' := perm_at
  unfold lhsOf
  generalize k0_pay7 (F := Ideal) x0 x1 x2 x3 = R at h ⊢
  generalize permOf (F := Ideal) = P at h' ⊢
  pointwise [k0_pay11, k0_pay12]
  simp only [h, h', mul_ite, mul_one, mul_zero, Finset.sum_ite_eq', Finset.mem_univ, if_true, Spec.half_eq]

set_option maxHeartbeats 1600000 in
/-- The six row planes: a query's numbers, the same in every lane. -/
theorem row_at (p : Fin 6) (j : Fin 80) (k : Fin 128) : rowOf (F := Ideal) x0 x1 x2 x3 (ix3 p j k)
    = (![Ideal.div (Spec.two * Spec.step (mat x0) (mat x1 0) (mat x2) j) Spec.sd,
      Ideal.div (Spec.two * Spec.lo (mat x0) (mat x1 0) (mat x2) j) Spec.sd,
      Ideal.div (Spec.step (mat x0) (mat x1 0) (mat x2) j) Spec.sd * Spec.sumq (mat x0) (mat x1 0) (mat x2) (mat x3) j + Spec.sd * Spec.lo (mat x0) (mat x1 0) (mat x2) j,
      Spec.nrm (mat x0) (mat x1 0) j,
      Spec.nrm (mat x0) (mat x1 0) j * Spec.nrm (mat x0) (mat x1 0) j,
      Spec.two * Spec.nrm (mat x0) (mat x1 0) j] : Fin 6 → EReal) p := by
  have hs := step_at x0 x1 x2
  have hl := lo_at x0 x1 x2
  have hn := nrm_at x0 x1
  have hq := sumq_at x0 x1 x2 x3
  unfold rowOf
  generalize k0_pay6 (F := Ideal) x0 x1 x2 = D at hs ⊢
  generalize k0_pay5 (F := Ideal) x0 x1 x2 = L at hl ⊢
  generalize k0_pay3 (F := Ideal) x0 x1 = N at hn ⊢
  generalize k0_pay9 (F := Ideal) x0 x1 x2 x3 = S at hq ⊢
  canon_tiles x h
  case piece0 =>
    obtain ⟨u, j', k', rfl⟩ : ∃ (u : Fin 1) (j' : Fin 80) (k' : Fin 128), x = ix3 u j' k' := ⟨x 0, x 1, x 2, eq_ix3 x⟩
    obtain rfl : j = j' := Fin.ext h1
    have hp : p.val = 5 + u.val := h0
    obtain rfl : p = 5 := Fin.ext (by have := u.isLt; show p.val = 5; omega)
    pointwise [k0_pay13, k0_pay14, k0_pay15, k0_pay16, k0_pay17, k0_pay18, k0_pay19, k0_pay20, k0_pay21]
    simp only [hs, hl, hn, hq]
  case piece1 =>
    obtain ⟨u, j', k', rfl⟩ : ∃ (u : Fin 1) (j' : Fin 80) (k' : Fin 128), x = ix3 u j' k' := ⟨x 0, x 1, x 2, eq_ix3 x⟩
    obtain rfl : j = j' := Fin.ext h1
    have hp : p.val = 4 + u.val := h0
    obtain rfl : p = 4 := Fin.ext (by have := u.isLt; show p.val = 4; omega)
    pointwise [k0_pay13, k0_pay14, k0_pay15, k0_pay16, k0_pay17, k0_pay18, k0_pay19, k0_pay20, k0_pay21]
    simp only [hs, hl, hn, hq]
  case piece2 =>
    obtain ⟨u, j', k', rfl⟩ : ∃ (u : Fin 1) (j' : Fin 80) (k' : Fin 128), x = ix3 u j' k' := ⟨x 0, x 1, x 2, eq_ix3 x⟩
    obtain rfl : j = j' := Fin.ext h1
    have hp : p.val = 3 + u.val := h0
    obtain rfl : p = 3 := Fin.ext (by have := u.isLt; show p.val = 3; omega)
    pointwise [k0_pay13, k0_pay14, k0_pay15, k0_pay16, k0_pay17, k0_pay18, k0_pay19, k0_pay20, k0_pay21]
    simp only [hs, hl, hn, hq]
  case piece3 =>
    obtain ⟨u, j', k', rfl⟩ : ∃ (u : Fin 1) (j' : Fin 80) (k' : Fin 128), x = ix3 u j' k' := ⟨x 0, x 1, x 2, eq_ix3 x⟩
    obtain rfl : j = j' := Fin.ext h1
    have hp : p.val = 2 + u.val := h0
    obtain rfl : p = 2 := Fin.ext (by have := u.isLt; show p.val = 2; omega)
    pointwise [k0_pay13, k0_pay14, k0_pay15, k0_pay16, k0_pay17, k0_pay18, k0_pay19, k0_pay20, k0_pay21]
    simp only [hs, hl, hn, hq]
  case piece4 =>
    obtain ⟨u, j', k', rfl⟩ : ∃ (u : Fin 1) (j' : Fin 80) (k' : Fin 128), x = ix3 u j' k' := ⟨x 0, x 1, x 2, eq_ix3 x⟩
    obtain rfl : j = j' := Fin.ext h1
    have hp : p.val = 1 + u.val := h0
    obtain rfl : p = 1 := Fin.ext (by have := u.isLt; show p.val = 1; omega)
    pointwise [k0_pay13, k0_pay14, k0_pay15, k0_pay16, k0_pay17, k0_pay18, k0_pay19, k0_pay20, k0_pay21]
    simp only [hs, hl, hn, hq]
  case piece5 =>
    obtain ⟨u, j', k', rfl⟩ : ∃ (u : Fin 1) (j' : Fin 80) (k' : Fin 128), x = ix3 u j' k' := ⟨x 0, x 1, x 2, eq_ix3 x⟩
    obtain rfl : j = j' := Fin.ext h1
    have hp : p.val = 0 + u.val := h0.trans (Nat.zero_add _).symm
    obtain rfl : p = 0 := Fin.ext (by have := u.isLt; show p.val = 0; omega)
    pointwise [k0_pay13, k0_pay14, k0_pay15, k0_pay16, k0_pay17, k0_pay18, k0_pay19, k0_pay20, k0_pay21]
    simp only [hs, hl, hn, hq]

end Query

set_option maxHeartbeats 1600000 in
/-- The four column planes. -/
theorem col_at (x5 x6 : FVec Ideal S32x128 .f32) (p : Fin 4) (a : Fin 32) (k : Fin 128) :
    colOf (F := Ideal) x5 x6 (ix3 p a k)
      = (![Ideal.div 1 (mat x6 a k), mat x5 a k, mat x5 a k * mat x5 a k,
          mat x5 a k * Ideal.div (Ideal.sqrt (1 - mat x6 a k * mat x6 a k)) (mat x6 a k) * Spec.conf] : Fin 4 → EReal) p := by
  unfold colOf
  canon_tiles x h
  case piece0 =>
    obtain ⟨u, a', k', rfl⟩ : ∃ (u : Fin 1) (a' : Fin 32) (k' : Fin 128), x = ix3 u a' k' := ⟨x 0, x 1, x 2, eq_ix3 x⟩
    obtain rfl : a = a' := Fin.ext h1
    obtain rfl : k = k' := Fin.ext h2
    have hp : p.val = 3 + u.val := h0
    obtain rfl : p = 3 := Fin.ext (by have := u.isLt; show p.val = 3; omega)
    pointwise [k0_pay24, k0_pay25, k0_pay26, k0_pay27, k0_pay28, k0_pay29]
  case piece1 =>
    obtain ⟨u, a', k', rfl⟩ : ∃ (u : Fin 1) (a' : Fin 32) (k' : Fin 128), x = ix3 u a' k' := ⟨x 0, x 1, x 2, eq_ix3 x⟩
    obtain rfl : a = a' := Fin.ext h1
    obtain rfl : k = k' := Fin.ext h2
    have hp : p.val = 2 + u.val := h0
    obtain rfl : p = 2 := Fin.ext (by have := u.isLt; show p.val = 2; omega)
    pointwise [k0_pay24, k0_pay25, k0_pay26, k0_pay27, k0_pay28, k0_pay29]
  case piece2 =>
    obtain ⟨u, a', k', rfl⟩ : ∃ (u : Fin 1) (a' : Fin 32) (k' : Fin 128), x = ix3 u a' k' := ⟨x 0, x 1, x 2, eq_ix3 x⟩
    obtain rfl : a = a' := Fin.ext h1
    obtain rfl : k = k' := Fin.ext h2
    have hp : p.val = 1 + u.val := h0
    obtain rfl : p = 1 := Fin.ext (by have := u.isLt; show p.val = 1; omega)
    pointwise [k0_pay24, k0_pay25, k0_pay26, k0_pay27, k0_pay28, k0_pay29]
  case piece3 =>
    obtain ⟨u, a', k', rfl⟩ : ∃ (u : Fin 1) (a' : Fin 32) (k' : Fin 128), x = ix3 u a' k' := ⟨x 0, x 1, x 2, eq_ix3 x⟩
    obtain rfl : a = a' := Fin.ext h1
    obtain rfl : k = k' := Fin.ext h2
    have hp : p.val = 0 + u.val := h0.trans (Nat.zero_add _).symm
    obtain rfl : p = 0 := Fin.ext (by have := u.isLt; show p.val = 0; omega)
    pointwise [k0_pay24, k0_pay25, k0_pay26, k0_pay27, k0_pay28, k0_pay29]

end Cert.KernelIdeal.Body

end
-- ==== Proof.Value.Arrays.lean ====
/- Every result array at the end of the run, as the formulas of `Cert.Spec` over the argument arrays. -/
module

public import proofs.«01_k».proof.Proof.Value.Blocks
public import proofs.«01_k».proof.Proof.Value.Prepared

@[expose] public section

set_option maxRecDepth 16384

noncomputable section

namespace Cert.KernelIdeal.Body

open Idealize.ShloMosaic Idealize.ShloMosaic.TcCoe Idealize.ShloMosaic.Tactic Idealize.SL.Sem
open Idealize.ShloMosaic.Pipeline (Dat)
open Cert.KernelIdeal.Gen
open Cert.KernelIdeal.Facts

/-! ## A block, over the blocks it is computed from -/

section Block
variable (x0 : FVec Ideal S80x256 .f32) (x1 : FVec Ideal S1x256 .f32) (x2 : FVec Ideal S256x256 .f32) (x3 : FVec Ideal S80x256 .f32)
  (x4 : IVec S8x4096 32) (x5 x6 : FVec Ideal S32x128 .f32)

theorem ip_val (j : Fin 80) (k : Fin 4096) (h : 0 < Spec.ss (mat x0) (mat x1 0) j) (hr : ∀ d e, Spec.Fin' (mat x2 d e))
    (ho : mat x6 (⟨k.val / 128, by omega⟩ : Fin 32) (⟨k.val % 128, by omega⟩ : Fin 128) ≠ 0) :
    ipAt x4 (lhsOf (F := Ideal) x0 x1 x2 x3) (rowOf (F := Ideal) x0 x1 x2 x3) (colOf (F := Ideal) x5 x6) j k
      = Spec.est (mat x0) (mat x1 0) (mat x2) (mat x3) (fun a => x4 (ix2 a k))
          (mat x6 (⟨k.val / 128, by omega⟩ : Fin 32) (⟨k.val % 128, by omega⟩ : Fin 128)) j := by
  have hd : (∑ d : Fin 256, lhsOf (F := Ideal) x0 x1 x2 x3 (ix2 j d) * bitv (fun a b => x4 (ix2 a b)) d k)
      = Spec.dotb (mat x0) (mat x1 0) (mat x2) (mat x3) (fun a => x4 (ix2 a k)) j := by
    rw [← Spec.dot_src]
    refine Finset.sum_congr rfl fun d _ => ?_
    rw [lhs_at]
    rfl
  rw [← Spec.est_kernel _ _ _ _ _ _ _ h hr ho, ipAt, hd, row_at, row_at, row_at, col_at]
  rfl

theorem dist_val (j : Fin 80) (k : Fin 4096) (h : 0 < Spec.ss (mat x0) (mat x1 0) j) (hr : ∀ d e, Spec.Fin' (mat x2 d e))
    (ho : mat x6 (⟨k.val / 128, by omega⟩ : Fin 32) (⟨k.val % 128, by omega⟩ : Fin 128) ≠ 0) :
    distAt x4 (lhsOf (F := Ideal) x0 x1 x2 x3) (rowOf (F := Ideal) x0 x1 x2 x3) (colOf (F := Ideal) x5 x6) j k
      = Spec.dist (mat x0) (mat x1 0) (mat x2) (mat x3) (fun a => x4 (ix2 a k))
          (mat x5 (⟨k.val / 128, by omega⟩ : Fin 32) (⟨k.val % 128, by omega⟩ : Fin 128))
          (mat x6 (⟨k.val / 128, by omega⟩ : Fin 32) (⟨k.val % 128, by omega⟩ : Fin 128)) j := by
  rw [← Spec.dist_kernel, distAt, ip_val x0 x1 x2 x3 x4 x5 x6 j k h hr ho, row_at, row_at, col_at, col_at]
  rfl

theorem bound_val (j : Fin 80) (k : Fin 4096) :
    boundAt (rowOf (F := Ideal) x0 x1 x2 x3) (colOf (F := Ideal) x5 x6) j k
      = Spec.bnd (mat x0) (mat x1 0)
          (mat x5 (⟨k.val / 128, by omega⟩ : Fin 32) (⟨k.val % 128, by omega⟩ : Fin 128))
          (mat x6 (⟨k.val / 128, by omega⟩ : Fin 32) (⟨k.val % 128, by omega⟩ : Fin 128)) j := by
  rw [← Spec.bnd_kernel, boundAt, row_at, col_at]
  rfl

end Block

/-! ## The arrays -/

variable (m : (ℓ : Loc nD τ sig) → Buf (Elt Ideal) ℓ) (c : Dev nD)

/-- The arguments as plain functions. -/
abbrev fX : Fin 80 → Fin 256 → EReal := mat (argX m c)
abbrev fC : Fin 256 → EReal := fun d => argC m c (ix1 d)
abbrev fR : Fin 256 → Fin 256 → EReal := mat (argR m c)
abbrev fO : Fin 80 → Fin 256 → EReal := mat (argO m c)
abbrev fW (n : Fin 524288) : Fin 8 → BitVec 32 := fun a => argW m c (ix2 n a)
abbrev fN (n : Fin 524288) : EReal := argN m c (ix1 n)
abbrev fP (n : Fin 524288) : EReal := argP m c (ix1 n)

/-- Where the two ways of writing the estimate agree: the rotation is finite, no query lies on the centroid, and no
    column's inner product is zero. -/
structure Regular : Prop where
  rot : ∀ d e, Spec.Fin' (fR m c d e)
  res : ∀ j, 0 < Spec.ss (fX m c) (fC m c) j
  inner : ∀ n, fP m c n ≠ 0

theorem e0 (t : Fin cfg0.N) : mat (show FVec Ideal S80x256 .f32 from iblk m c 0 t) = fX m c := by
  show mat (show FVec Ideal S80x256 .f32 from iblk m c 0 t) = _
  rw [blk0]
theorem e1 (t : Fin cfg0.N) : mat (show FVec Ideal S1x256 .f32 from iblk m c 1 t) 0 = fC m c := funext fun d => blk1 m c t d
theorem e2 (t : Fin cfg0.N) : mat (show FVec Ideal S256x256 .f32 from iblk m c 2 t) = fR m c := by
  rw [blk2]
theorem e3 (t : Fin cfg0.N) : mat (show FVec Ideal S80x256 .f32 from iblk m c 3 t) = fO m c := by
  rw [blk3]

/-- The column a point's block has at `k`. -/
def colIx (t : Fin cfg0.N) (k : Fin 4096) : Fin 524288 := ⟨t.val * 4096 + k.val, by have : t.val < 128 := t.isLt; omega⟩

theorem e4 (t : Fin cfg0.N) (k : Fin 4096) : (fun a : Fin 8 => (show IVec S8x4096 32 from iblk m c 4 t) (ix2 a k)) = fW m c (colIx t k) :=
  funext fun a => blk4 m c t a k _ rfl
theorem e5 (t : Fin cfg0.N) (k : Fin 4096) :
    mat (show FVec Ideal S32x128 .f32 from iblk m c 5 t) (⟨k.val / 128, by omega⟩ : Fin 32) (⟨k.val % 128, by omega⟩ : Fin 128) = fN m c (colIx t k) :=
  blk5 m c t _ _ _ (by show t.val * 4096 + k.val = t.val * 4096 + k.val / 128 * 128 + k.val % 128; omega)
theorem e6 (t : Fin cfg0.N) (k : Fin 4096) :
    mat (show FVec Ideal S32x128 .f32 from iblk m c 6 t) (⟨k.val / 128, by omega⟩ : Fin 32) (⟨k.val % 128, by omega⟩ : Fin 128) = fP m c (colIx t k) :=
  blk6 m c t _ _ _ (by show t.val * 4096 + k.val = t.val * 4096 + k.val / 128 * 128 + k.val % 128; omega)

def distArr : FVec Ideal S80x524288 .f32 := fun y =>
  Spec.dist (fX m c) (fC m c) (fR m c) (fO m c) (fW m c (y 1)) (fN m c (y 1)) (fP m c (y 1)) (y 0)
def boundArr : FVec Ideal S80x524288 .f32 := fun y => Spec.bnd (fX m c) (fC m c) (fN m c (y 1)) (fP m c (y 1)) (y 0)
def ipArr : FVec Ideal S80x524288 .f32 := fun y =>
  Spec.est (fX m c) (fC m c) (fR m c) (fO m c) (fW m c (y 1)) (fP m c (y 1)) (y 0)
def codesArr : IVec S80x256 8 := fun y => Spec.code (fX m c) (fC m c) (fR m c) (fO m c) (y 0) (y 1)
def deltaArr : FVec Ideal S80 .f32 := fun y => Spec.step (fX m c) (fC m c) (fR m c) (y 0)
def vlArr : FVec Ideal S80 .f32 := fun y => Spec.lo (fX m c) (fC m c) (fR m c) (y 0)

theorem point7 (H : Regular m c) (t : Fin cfg0.N) (j : Fin 80) (k : Fin 4096) :
    distOf (iblk m c 4 t) (qLhs m c) (qRow m c) (colOf (iblk m c 5 t) (iblk m c 6 t)) (ix2 j k) = distArr m c (ix2 j (colIx t k)) := by
  refine (dist_val (iblk m c 0 t0) (iblk m c 1 t0) (iblk m c 2 t0) (iblk m c 3 t0) (iblk m c 4 t) (iblk m c 5 t) (iblk m c 6 t) j k
    ?_ ?_ ?_).trans ?_
  · rw [e0, e1]; exact H.res j
  · rw [e2]; exact H.rot
  · rw [e6]; exact H.inner _
  · rw [e0, e1, e2, e3, e5, e6, e4]; rfl

theorem point8 (t : Fin cfg0.N) (j : Fin 80) (k : Fin 4096) :
    boundOf (qRow m c) (colOf (iblk m c 5 t) (iblk m c 6 t)) (ix2 j k) = boundArr m c (ix2 j (colIx t k)) := by
  refine (bound_val (iblk m c 0 t0) (iblk m c 1 t0) (iblk m c 2 t0) (iblk m c 3 t0) (iblk m c 5 t) (iblk m c 6 t) j k).trans ?_
  rw [e0, e1, e5, e6]; rfl

theorem point9 (H : Regular m c) (t : Fin cfg0.N) (j : Fin 80) (k : Fin 4096) :
    ipOf (iblk m c 4 t) (qLhs m c) (qRow m c) (colOf (iblk m c 5 t) (iblk m c 6 t)) (ix2 j k) = ipArr m c (ix2 j (colIx t k)) := by
  refine (ip_val (iblk m c 0 t0) (iblk m c 1 t0) (iblk m c 2 t0) (iblk m c 3 t0) (iblk m c 4 t) (iblk m c 5 t) (iblk m c 6 t) j k
    ?_ ?_ ?_).trans ?_
  · rw [e0, e1]; exact H.res j
  · rw [e2]; exact H.rot
  · rw [e6]; exact H.inner _
  · rw [e0, e1, e2, e3, e6, e4]; rfl

theorem emb7 (t : Fin cfg0.N) (j : Fin 80) (k : Fin 4096) : ((cfg0.win 7).blk t).view.emb (ix2 j k) = ix2 j (colIx t k) := by
  unfold colIx; blk_ext! [idx_val t]
theorem emb8 (t : Fin cfg0.N) (j : Fin 80) (k : Fin 4096) : ((cfg0.win 8).blk t).view.emb (ix2 j k) = ix2 j (colIx t k) := by
  unfold colIx; blk_ext! [idx_val t]
theorem emb9 (t : Fin cfg0.N) (j : Fin 80) (k : Fin 4096) : ((cfg0.win 9).blk t).view.emb (ix2 j k) = ix2 j (colIx t k) := by
  unfold colIx; blk_ext! [idx_val t]

theorem arr7 (H : Regular m c) : (dats m 0 c).arrAt 7 cfg0.N = distArr m c :=
  (dats m 0 c).arrAt_eq_of_covers 7 _ (by decide +kernel) fun t _ y => by
    blk_simp; rw [after0_7]
    rw [eq_ix2 y]
    exact (point7 m c H t (y 0) (y 1)).trans (congrArg (distArr m c) (emb7 t (y 0) (y 1)).symm)

theorem arr8 : (dats m 0 c).arrAt 8 cfg0.N = boundArr m c :=
  (dats m 0 c).arrAt_eq_of_covers 8 _ (by decide +kernel) fun t _ y => by
    blk_simp; rw [after0_8]
    rw [eq_ix2 y]
    exact (point8 m c t (y 0) (y 1)).trans (congrArg (boundArr m c) (emb8 t (y 0) (y 1)).symm)

theorem arr9 (H : Regular m c) : (dats m 0 c).arrAt 9 cfg0.N = ipArr m c :=
  (dats m 0 c).arrAt_eq_of_covers 9 _ (by decide +kernel) fun t _ y => by
    blk_simp; rw [after0_9]
    rw [eq_ix2 y]
    exact (point9 m c H t (y 0) (y 1)).trans (congrArg (ipArr m c) (emb9 t (y 0) (y 1)).symm)

/-- The last point. -/
def tLast : Fin cfg0.N := ⟨127, lt_of_lt_of_eq (by omega : 127 < 128) (show cfg0.N = 128 from N_0).symm⟩

theorem arr10 : (dats m 0 c).arrAt 10 cfg0.N = codesArr m c :=
  (dats m 0 c).arrAt_eq_of_after_last 10 tLast (by decide +kernel) _ fun y => by
    blk_simp; rw [after0_10]
    rw [eq_ix2 y]
    refine (codes_at (iblk m c 0 t0) (iblk m c 1 t0) (iblk m c 2 t0) (iblk m c 3 t0) (y 0) (y 1)).trans ?_
    rw [e0, e1, e2, e3]; rfl

theorem arr11 : (dats m 0 c).arrAt 11 cfg0.N = fun y => deltaArr m c (ix1 (y 1)) :=
  (dats m 0 c).arrAt_eq_of_after_last 11 tLast (by decide +kernel) _ fun y => by
    blk_simp; rw [after0_11]
    have hy : y = ix2 0 (y 1) := by blk_ext! []
    rw [hy]
    refine (delta_at (iblk m c 0 t0) (iblk m c 1 t0) (iblk m c 2 t0) (y 1)).trans ?_
    rw [e0, e1, e2]; rfl

theorem arr12 : (dats m 0 c).arrAt 12 cfg0.N = fun y => vlArr m c (ix1 (y 1)) :=
  (dats m 0 c).arrAt_eq_of_after_last 12 tLast (by decide +kernel) _ fun y => by
    blk_simp; rw [after0_12]
    have hy : y = ix2 0 (y 1) := by blk_ext! []
    rw [hy]
    refine (vl_at (iblk m c 0 t0) (iblk m c 1 t0) (iblk m c 2 t0) (y 1)).trans ?_
    rw [e0, e1, e2]; rfl

end Cert.KernelIdeal.Body

end
-- ==== Proof.Value.KernelRun.lean ====
/- The kernel's run: each result ends as the array `Value.Arrays` states. -/
module

public import proofs.«01_k».proof.Proof.Value.Arrays
public import proofs.«01_k».proof.Proof.Body.Run

@[expose] public section

set_option maxRecDepth 16384

noncomputable section

namespace Cert.KernelIdeal.Body

open Idealize.ShloMosaic Idealize.ShloMosaic.TcCoe Idealize.ShloMosaic.Tactic Idealize.SL.Sem
open Idealize.ShloMosaic.Pipeline (Dat)
open Cert.KernelIdeal.Gen
open Cert.KernelIdeal.Facts

variable (m : (ℓ : Loc nD τ sig) → Buf (Elt Ideal) ℓ) (ρ : Dev nD → PrngReg)

/-- The two query vectors, which the host lines after the region reshape. -/
theorem tail_delta (c : Dev nD) : Pipeline.afterTail₀ cfgs (dats m) 0 (V0 m) [hostOps1] c main_v5 = deltaArr m c := by
  have hw : Pipeline.withArrays (cfgs 0).spec c (V0 m c) (fun w => (dats m 0 c).arrAt w (cfgs 0).N) (Proc.tc.devRef main_v4_4)
      = fun y : S1x80.Idx => deltaArr m c (ix1 (y 1)) :=
    (Pipeline.withArrays_arr spec0 launch0.win.arr_inj c (V0 m c) (fun w => (dats m 0 c).arrAt w (cfgs 0).N) 11).trans (arr11 m c)
  unfold Pipeline.afterTail₀ hostOps1
  simp only [List.flatten_cons, List.flatten_nil, List.append_nil, List.cons_append, List.nil_append]
  after_results
  rw [hw]
  generalize deltaArr m c = A
  funext i
  refine Eq.trans (b := shapeCast S80 (fun y : S1x80.Idx => A (ix1 (y 1))) shapeCasts_S1x80_S80 i) rfl ?_
  rw [eq_ix1 i]
  pointwise

theorem tail_vl (c : Dev nD) : Pipeline.afterTail₀ cfgs (dats m) 0 (V0 m) [hostOps1] c main_v6 = vlArr m c := by
  have hw : Pipeline.withArrays (cfgs 0).spec c (V0 m c) (fun w => (dats m 0 c).arrAt w (cfgs 0).N) (Proc.tc.devRef main_v4_5)
      = fun y : S1x80.Idx => vlArr m c (ix1 (y 1)) :=
    (Pipeline.withArrays_arr spec0 launch0.win.arr_inj c (V0 m c) (fun w => (dats m 0 c).arrAt w (cfgs 0).N) 12).trans (arr12 m c)
  unfold Pipeline.afterTail₀ hostOps1
  simp only [List.flatten_cons, List.flatten_nil, List.append_nil, List.cons_append, List.nil_append]
  after_results
  rw [hw]
  generalize vlArr m c = A
  funext i
  refine Eq.trans (b := shapeCast S80 (fun y : S1x80.Idx => A (ix1 (y 1))) shapeCasts_S1x80_S80 i) rfl ?_
  rw [eq_ix1 i]
  pointwise

set_option maxHeartbeats 1600000 in
theorem run_values (H : ∀ c, Regular m c) :
    θ_run defs (onTc (τ := τ) (main (F := Ideal))) ⟨m, fun _ => 0, ρ⟩ (fun r => ∀ c : Dev nD,
      r.2.mem ((c.tc : Thread nD τ).loc main_v4_0) = distArr m c
      ∧ r.2.mem ((c.tc : Thread nD τ).loc main_v4_1) = boundArr m c
      ∧ r.2.mem ((c.tc : Thread nD τ).loc main_v4_2) = ipArr m c
      ∧ r.2.mem ((c.tc : Thread nD τ).loc main_v4_3) = codesArr m c
      ∧ r.2.mem ((c.tc : Thread nD τ).loc main_v5) = deltaArr m c
      ∧ r.2.mem ((c.tc : Thread nD τ).loc main_v6) = vlArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  run_from run_main m ρ
  · exact arr7 m c (H c)
  · exact arr8 m c
  · exact arr9 m c (H c)
  · exact arr10 m c
  · exact tail_delta m c
  · exact tail_vl m c
  · exact W_main_arg1 m (dats m) c
  · exact W_main_arg4 m (dats m) c
  · exact W_main_arg5 m (dats m) c
  · exact W_main_arg6 m (dats m) c

end Cert.KernelIdeal.Body

end
-- ==== Proof.Value.Reference.lean ====
/- The reference's results, stage by stage, and each read at an index as a formula of `Cert.Spec`. -/
module

public import proofs.«01_k».proof.Proof.Gen.ReferenceIdeal
public import proofs.«01_k».proof.Proof.Value.Spec
public import Idealize.ShloMosaic.Lib.Claim
public import Idealize.ShloMosaic.Lib.Pipeline.ValueKit

@[expose] public section

set_option maxRecDepth 16384

noncomputable section

namespace Cert.ReferenceIdeal.Value

open Idealize.ShloMosaic Idealize.ShloMosaic.TcCoe Idealize.ShloMosaic.Tactic Idealize.SL.Sem
open Cert.ReferenceIdeal Cert.ReferenceIdeal.Gen

section Stages
variable (X : FVec Ideal S80x256 .f32) (C : FVec Ideal S256 .f32) (R : FVec Ideal S256x256 .f32) (O : FVec Ideal S80x256 .f32)
  (W : IVec S524288x8 32) (N P : FVec Ideal S524288 .f32)

/-- A query's residual. -/
def res : FVec Ideal S80x256 .f32 := subf X (broadcastInDim S80x256 ![0, 1] bcast_S1x256_S80x256_0_1 (broadcastInDim S1x256 ![1] bcast_S256_S1x256_1 C))
/-- Its norm. -/
def nrm : FVec Ideal S80 .f32 := Host.sqrt (Host.reduceAdd (mulf (res X C) (res X C)) (constant S_ .f32 0x00000000#32) reducesTo_S80x256_S80_d1 h_S_)
/-- A value of each query over its row. -/
def wide (v : FVec Ideal S80 .f32) : FVec Ideal S80x256 .f32 := broadcastInDim S80x256 ![0, 1] bcast_S80x1_S80x256_0_1 (broadcastInDim S80x1 ![0] bcast_S80_S80x1_0 v)
/-- The rotated unit residual. -/
def qr : FVec Ideal S80x256 .f32 := Host.dotGeneral dot_S80x256_S256x256_S80x256_1_0_0_1_n_n (some .fp32) (Host.divf (res X C) (wide (nrm X C))) R
def lo : FVec Ideal S80 .f32 := Host.reduce FloatOps.minimumf (qr X C R) (constant S_ .f32 0x7F800000#32) reducesTo_S80x256_S80_d1 h_S_
def hi : FVec Ideal S80 .f32 := Host.reduce FloatOps.maximumf (qr X C R) (constant S_ .f32 0xFF800000#32) reducesTo_S80x256_S80_d1 h_S_
def step : FVec Ideal S80 .f32 := Host.divf (subf (hi X C R) (lo X C R)) (broadcastInDim S80 ![] bcast_S_S80 (constant S_ .f32 0x41700000#32))
/-- The quantised entries. -/
def qv : FVec Ideal S80x256 .f32 :=
  minimumf (broadcastInDim S80x256 ![] bcast_S_S80x256 (id (constant S_ .f32 0x41700000#32)))
    (maximumf (broadcastInDim S80x256 ![] bcast_S_S80x256 (id (constant S_ .f32 0x00000000#32)))
      (Host.floor (addf (Host.divf (subf (qr X C R) (wide (lo X C R))) (wide (step X C R))) O)))
def code : IVec S80x256 8 := id (trunci 8 (fptosi 32 (qv X C R O)) natLt_8_32)
/-- The codes as numbers. -/
def codeNum : FVec Ideal S80x256 .bf16 := sitofp .bf16 (extui 32 (code X C R O) natLt_8_32)
def codeSum : FVec Ideal S80 .f32 := sitofp .f32 (Host.reduce IntOp.addi (extui 32 (code X C R O) natLt_8_32) (constantI S_ 32 0#32) reducesTo_S80x256_S80_d1 h_S_)
/-- The columns' bits, each a number. -/
def bits3 : IVec S524288x8x32 32 :=
  andi (Host.shrui (broadcastInDim S524288x8x32 ![0, 1, 2] bcast_S524288x8x1_S524288x8x32_0_1_2 (broadcastInDim S524288x8x1 ![0, 1] bcast_S524288x8_S524288x8x1_0_1 W))
      (broadcastInDim S524288x8x32 ![0, 1, 2] bcast_S1x1x32_S524288x8x32_0_1_2 (broadcastInDim S1x1x32 ![2] bcast_S32_S1x1x32_2 (iotaInDim S32 32 0))))
    (broadcastInDim S524288x8x32 ![] bcast_S_S524288x8x32 (constantI S_ 32 1#32))
def bits : FVec Ideal S524288x256 .bf16 := uitofp .bf16 (shapeCast S524288x256 (bits3 W) shapeCasts_S524288x8x32_S524288x256)
def dot : FVec Ideal S80x524288 .f32 := Host.dotGeneral dot_S80x256_S524288x256_S80x524288_1_1_0_0_n_n none (codeNum X C R O) (bits W)
def pop : FVec Ideal S524288 .f32 := sitofp .f32 (Host.reduce IntOp.addi (id (ctpop W)) (constantI S_ 32 0#32) reducesTo_S524288x8_S524288_d1 h_S_)
/-- A value of each query, and of each column, over the whole result. -/
def overQ (v : FVec Ideal S80 .f32) : FVec Ideal S80x524288 .f32 := broadcastInDim S80x524288 ![0, 1] bcast_S80x1_S80x524288_0_1 (broadcastInDim S80x1 ![0] bcast_S80_S80x1_0 v)
def overN (v : FVec Ideal S524288 .f32) : FVec Ideal S80x524288 .f32 := broadcastInDim S80x524288 ![0, 1] bcast_S1x524288_S80x524288_0_1 (broadcastInDim S1x524288 ![1] bcast_S524288_S1x524288_1 v)
/-- A constant for each query. -/
abbrev cQ (b : BitVec 32) : FVec Ideal S80 .f32 := broadcastInDim S80 ![] bcast_S_S80 (constant S_ .f32 b)
def est : FVec Ideal S80x524288 .f32 :=
  Host.divf
    (subf
      (subf
        (addf (mulf (overQ (Host.divf (mulf (cQ 0x40000000#32) (id (step X C R))) (cQ 0x41800000#32))) (dot X C R O W))
          (mulf (overQ (Host.divf (mulf (cQ 0x40000000#32) (id (lo X C R))) (cQ 0x41800000#32))) (overN (pop W))))
        (overQ (mulf (Host.divf (id (step X C R)) (cQ 0x41800000#32)) (codeSum X C R O))))
      (overQ (mulf (cQ 0x41800000#32) (id (lo X C R)))))
    (overN P)
/-- The product of the two norms. -/
def nn : FVec Ideal S80x524288 .f32 := mulf (overN N) (overQ (nrm X C))
def dist : FVec Ideal S80x524288 .f32 :=
  subf (addf (overN (mulf N N)) (overQ (mulf (nrm X C) (nrm X C))))
    (mulf (mulf (broadcastInDim S80x524288 ![] bcast_S_S80x524288 (constant S_ .f32 0x40000000#32)) (nn X C N)) (est X C R O W P))
def bnd : FVec Ideal S80x524288 .f32 :=
  mulf (mulf (nn X C N) (overN (Host.divf (Host.sqrt (subf (broadcastInDim S524288 ![] bcast_S_S524288 (constant S_ .f32 0x3F800000#32)) (mulf P P))) P)))
    (broadcastInDim S80x524288 ![] bcast_S_S80x524288 (constant S_ .f32 0x3E73AD28#32))

/-! ## Each stage at an index -/

abbrev mat {a b : ℕ} (v : FVec Ideal ⟨2, ![a, b]⟩ .f32) : Fin a → Fin b → EReal := fun i k => v (ix2 i k)
abbrev vec {a : ℕ} (v : FVec Ideal ⟨1, ![a]⟩ .f32) : Fin a → EReal := fun i => v (ix1 i)
/-- A column's words. -/
abbrev words (n : Fin 524288) : Fin 8 → BitVec 32 := fun a => W (ix2 n a)

theorem one_eq : Ideal.ofBits .f32 0x3F800000#32 = 1 := by
  have h : Ideal.ofBits .f32 0x3F800000#32 = ((1 : ℝ) : EReal) := by
    simp [Ideal.ofBits, Ideal.ieee, -EReal.coe_mul]; norm_num
  rw [h]; rfl
theorem zero_eq : Ideal.ofBits .f32 0x00000000#32 = 0 := by
  simp [Ideal.ofBits, Ideal.ieee, -EReal.coe_mul]

theorem res_at (j : Fin 80) (d : Fin 256) : res X C (ix2 j d) = mat X j d - vec C d := by
  pointwise [res]

theorem wide_at (v : FVec Ideal S80 .f32) (j : Fin 80) (d : Fin 256) : wide v (ix2 j d) = v (ix1 j) := by
  pointwise [wide]

theorem overQ_at (v : FVec Ideal S80 .f32) (j : Fin 80) (n : Fin 524288) : overQ v (ix2 j n) = v (ix1 j) := by
  pointwise [overQ]

theorem overN_at (v : FVec Ideal S524288 .f32) (j : Fin 80) (n : Fin 524288) : overN v (ix2 j n) = v (ix1 n) := by
  pointwise [overN]

theorem nrm_at (j : Fin 80) : nrm X C (ix1 j) = Spec.nrm (mat X) (vec C) j := by
  have h := res_at X C
  unfold nrm
  generalize res X C = Z at h ⊢
  pointwise
  simp only [h, Spec.nrm, Spec.ss]

theorem qr_at (j : Fin 80) (e : Fin 256) : qr X C R (ix2 j e) = Spec.qr (mat X) (vec C) (mat R) j e := by
  have h := res_at X C
  have h' := fun j d => (wide_at (nrm X C) j d).trans (nrm_at X C j)
  unfold qr
  generalize res X C = Z at h ⊢
  generalize wide (nrm X C) = Y at h' ⊢
  pointwise
  simp only [h, h', Spec.qr]

theorem lo_at (j : Fin 80) : lo X C R (ix1 j) = Spec.lo (mat X) (vec C) (mat R) j := by
  have h := qr_at X C R
  unfold lo
  generalize qr X C R = Z at h ⊢
  pointwise
  simp only [h, Spec.lo]

theorem hi_at (j : Fin 80) : hi X C R (ix1 j) = Spec.hi (mat X) (vec C) (mat R) j := by
  have h := qr_at X C R
  unfold hi
  generalize qr X C R = Z at h ⊢
  pointwise
  simp only [h, Spec.hi]

theorem step_at (j : Fin 80) : step X C R (ix1 j) = Spec.step (mat X) (vec C) (mat R) j := by
  have h := lo_at X C R j
  have h' := hi_at X C R j
  unfold step
  generalize lo X C R = Z at h ⊢
  generalize hi X C R = Y at h' ⊢
  pointwise
  simp only [h, h', Spec.step]

theorem qv_at (j : Fin 80) (e : Fin 256) : qv X C R O (ix2 j e) = Spec.qv (mat X) (vec C) (mat R) (mat O) j e := by
  have h := qr_at X C R
  have h' := fun j d => (wide_at (lo X C R) j d).trans (lo_at X C R j)
  have h'' := fun j d => (wide_at (step X C R) j d).trans (step_at X C R j)
  unfold qv
  generalize qr X C R = Z at h ⊢
  generalize wide (lo X C R) = Y at h' ⊢
  generalize wide (step X C R) = V at h'' ⊢
  pointwise
  simp only [h, h', h'', id_eq, constant_apply, Spec.qv]
  show min _ (max (Ideal.ofBits .f32 0x00000000#32) _) = _
  rw [zero_eq]
  rfl

theorem code_at (j : Fin 80) (e : Fin 256) : code X C R O (ix2 j e) = Spec.code (mat X) (vec C) (mat R) (mat O) j e := by
  have h := qv_at X C R O j e
  have e : code X C R O (ix2 j e) = (Ideal.fptosi 32 (qv X C R O (ix2 j e))).setWidth 8 := rfl
  rw [e, h, Spec.code]

theorem codeNum_at (j : Fin 80) (e : Fin 256) : codeNum X C R O (ix2 j e) = Spec.qv (mat X) (vec C) (mat R) (mat O) j e := by
  have h := code_at X C R O j e
  have e' : codeNum X C R O (ix2 j e) = ((((code X C R O (ix2 j e)).setWidth 32).toInt : ℝ) : EReal) := rfl
  rw [e', h, Spec.code_num]

theorem codeSum_at (j : Fin 80) : codeSum X C R O (ix1 j) = Spec.sumq (mat X) (vec C) (mat R) (mat O) j := by
  have h := code_at X C R O
  rw [← Spec.sum_codes]
  unfold codeSum
  generalize code X C R O = Z at h ⊢
  pointwise
  simp only [← h]
  rfl

theorem bit_eq (w : BitVec 32) (b : Fin 32) :
    IntOp.andi (IntOp.shrui ArithUnit.host w (BitVec.ofNat 32 b.val)) 1#32 = if w.getLsbD b.val then 1#32 else 0#32 := by
  have hb : (BitVec.ofNat 32 b.val).toNat = b.val := by
    rw [BitVec.toNat_ofNat]; exact Nat.mod_eq_of_lt (by omega)
  simp only [IntOp.shrui, IntOp.andi, hb, b.isLt, if_true]
  rw [BitVec.ushiftRight_eq', hb]
  apply BitVec.eq_of_getLsbD_eq
  intro i hi
  rw [BitVec.getLsbD_and, BitVec.getLsbD_ushiftRight]
  by_cases h0 : i = 0
  · subst h0
    rw [Nat.add_zero]
    generalize w.getLsbD b.val = q
    cases q <;> rfl
  · have h1 : (1#32).getLsbD i = false := by simp [h0]
    rw [h1, Bool.and_false]
    generalize w.getLsbD b.val = q
    cases q
    · simp
    · exact h1.symm

theorem bits3_at (n : Fin 524288) (a : Fin 8) (b : Fin 32) :
    bits3 W (ix3 n a b) = if (W (ix2 n a)).getLsbD b.val then 1#32 else 0#32 := by
  unfold bits3
  pointwise
  exact bit_eq _ _

theorem bits_at (n : Fin 524288) (e : Fin 256) :
    bits W (ix2 n e) = if (words W n (⟨e.val / 32, by omega⟩ : Fin 8)).getLsbD (e.val % 32) then 1 else 0 := by
  have h := bits3_at W
  unfold bits
  generalize bits3 W = Z at h ⊢
  pointwise
  rw [h]
  have u : ∀ b : Bool, FloatOps.uitofp (F := Ideal) .bf16 (if b then 1#32 else 0#32) = if b then (1 : EReal) else 0 := by
    intro b
    cases b
    · show (((0#32 : BitVec 32).toNat : ℝ) : EReal) = 0
      simp
    · show (((1#32 : BitVec 32).toNat : ℝ) : EReal) = 1
      simp
  exact u _

theorem dot_at (j : Fin 80) (n : Fin 524288) : dot X C R O W (ix2 j n) = Spec.dotb (mat X) (vec C) (mat R) (mat O) (words W n) j := by
  have h := codeNum_at X C R O
  have h' := bits_at W
  unfold dot
  generalize codeNum X C R O = Z at h ⊢
  generalize bits W = Y at h' ⊢
  pointwise
  simp only [h, h', Spec.dotb]

theorem pop_at (n : Fin 524288) : pop W (ix1 n) = Spec.pop (words W n) := by
  unfold pop
  pointwise
  rfl

theorem est_at (j : Fin 80) (n : Fin 524288) :
    est X C R O W P (ix2 j n) = Spec.est (mat X) (vec C) (mat R) (mat O) (words W n) (vec P n) j := by
  have hs := step_at X C R j
  have hl := lo_at X C R j
  have hc := codeSum_at X C R O j
  have hd := dot_at X C R O W j n
  have hp := pop_at W n
  unfold est
  generalize step X C R = A at hs ⊢
  generalize lo X C R = B at hl ⊢
  generalize codeSum X C R O = D at hc ⊢
  generalize dot X C R O W = E at hd ⊢
  generalize pop W = G at hp ⊢
  pointwise [overQ, overN]
  simp only [hs, hl, hc, hd, hp, id_eq, Spec.est]

theorem nn_at (j : Fin 80) (n : Fin 524288) : nn X C N (ix2 j n) = vec N n * Spec.nrm (mat X) (vec C) j := by
  have h := nrm_at X C j
  unfold nn
  generalize nrm X C = A at h ⊢
  pointwise [overQ, overN]
  simp only [h]

theorem dist_at (j : Fin 80) (n : Fin 524288) :
    dist X C R O W N P (ix2 j n) = Spec.dist (mat X) (vec C) (mat R) (mat O) (words W n) (vec N n) (vec P n) j := by
  have h := nrm_at X C j
  have hn := nn_at X C N j n
  have he := est_at X C R O W P j n
  unfold dist
  generalize nrm X C = A at h ⊢
  generalize nn X C N = B at hn ⊢
  generalize est X C R O W P = E at he ⊢
  pointwise [overQ, overN]
  simp only [h, hn, he, Spec.dist]

theorem bnd_at (j : Fin 80) (n : Fin 524288) :
    bnd X C N P (ix2 j n) = Spec.bnd (mat X) (vec C) (vec N n) (vec P n) j := by
  have hn := nn_at X C N j n
  unfold bnd
  generalize nn X C N = B at hn ⊢
  pointwise [overQ, overN]
  simp only [hn, one_eq, Spec.bnd]

end Stages

end Cert.ReferenceIdeal.Value

end
-- ==== Proof.Value.ReferenceRun.lean ====
/- The reference's run: each result ends as its stage over the arguments. -/
module

public import proofs.«01_k».proof.Proof.Value.Reference
public import Idealize.ShloMosaic.Lib.Quiescent

@[expose] public section

set_option maxRecDepth 100000

noncomputable section

namespace Cert.ReferenceIdeal.Value

open Idealize.ShloMosaic Idealize.ShloMosaic.TcCoe Idealize.ShloMosaic.Tactic Idealize.SL.Sem
open Cert.ReferenceIdeal Cert.ReferenceIdeal.Gen

variable (m : (ℓ : Loc nD τ sig) → Buf (Elt Ideal) ℓ) (ρ : Dev nD → PrngReg)

abbrev argX (c : Dev nD) : FVec Ideal S80x256 .f32 := m ((c.tc : Thread nD τ).loc main_arg0)
abbrev argC (c : Dev nD) : FVec Ideal S256 .f32 := m ((c.tc : Thread nD τ).loc main_arg1)
abbrev argR (c : Dev nD) : FVec Ideal S256x256 .f32 := m ((c.tc : Thread nD τ).loc main_arg2)
abbrev argO (c : Dev nD) : FVec Ideal S80x256 .f32 := m ((c.tc : Thread nD τ).loc main_arg3)
abbrev argW (c : Dev nD) : IVec S524288x8 32 := m ((c.tc : Thread nD τ).loc main_arg4)
abbrev argN (c : Dev nD) : FVec Ideal S524288 .f32 := m ((c.tc : Thread nD τ).loc main_arg5)
abbrev argP (c : Dev nD) : FVec Ideal S524288 .f32 := m ((c.tc : Thread nD τ).loc main_arg6)

set_option maxHeartbeats 3200000 in
theorem run : θ_run defs (onTc (τ := τ) (main (F := Ideal))) ⟨m, fun _ => 0, ρ⟩ (fun r => ∀ c : Dev nD,
      (r.2.mem ((c.tc : Thread nD τ).loc main_v93) = dist (argX m c) (argC m c) (argR m c) (argO m c) (argW m c) (argN m c) (argP m c)
      ∧ r.2.mem ((c.tc : Thread nD τ).loc main_v103) = bnd (argX m c) (argC m c) (argN m c) (argP m c)
      ∧ r.2.mem ((c.tc : Thread nD τ).loc main_v77) = est (argX m c) (argC m c) (argR m c) (argO m c) (argW m c) (argP m c)
      ∧ r.2.mem ((c.tc : Thread nD τ).loc main_v26_0) = code (argX m c) (argC m c) (argR m c) (argO m c)
      ∧ r.2.mem ((c.tc : Thread nD τ).loc main_v26_1) = step (argX m c) (argC m c) (argR m c)
      ∧ r.2.mem ((c.tc : Thread nD τ).loc main_v26_2) = lo (argX m c) (argC m c) (argR m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  hlo_run
  all_goals (delta dist bnd nn est overQ overN pop dot bits bits3 codeSum codeNum code qv step hi lo qr wide nrm res; rfl)

end Cert.ReferenceIdeal.Value

end
-- ==== Proof.Value.Regular.lean ====
/- What the precondition says of the arguments. -/
module

public import proofs.«01_k».proof.Pre_regular_inputs
public import proofs.«01_k».proof.Proof.Value.Spec
public import Idealize.ShloMosaic.Lib.Claim

@[expose] public section

set_option maxRecDepth 16384

noncomputable section

namespace Cert.Pre_regular_inputs

open Idealize.ShloMosaic Idealize.ShloMosaic.TcCoe Idealize.ShloMosaic.Tactic

theorem facts : Facts where
  bcast_S256_S1x256_1 := by decide
  bcast_S1x256_S80x256_0_1 := by decide
  bcast_S_S256x256 := by decide
  reducesTo_S80x256_S80_d1 := by decide
  h_S_ := by decide
  bcast_S_S80 := by decide
  bcast_S_S524288 := by decide

open Facts

section
variable [Facts] (x : FVec Ideal S80x256 .f32) (c : FVec Ideal S256 .f32) (r : FVec Ideal S256x256 .f32) (o : FVec Ideal S80x256 .f32)
  (w : IVec S524288x8 32) (n p : FVec Ideal S524288 .f32)

theorem zero_eq : Ideal.ofBits .f32 0x00000000#32 = 0 := by
  simp [Ideal.ofBits, Ideal.ieee, -EReal.coe_mul]

theorem of_bool {b : Bool} (h : BitVec.ofBool b = 1#1) : b = true := by
  cases b
  · exact absurd h (by decide)
  · rfl

theorem rot_fin (h : (fn (F := Ideal) x c r o w n p).1 = fun _ => 1#1) (d e : Fin 256) : Spec.Fin' (r (ix2 d e)) := by
  have h1 : Ideal.cmp .olt (max (r (ix2 d e)) (-r (ix2 d e))) (Ideal.ofBits .f32 0x7F800000#32) = 1#1 := congrFun h (ix2 d e)
  have h2 : max (r (ix2 d e)) (-r (ix2 d e)) < ⊤ := by
    rw [Spec.top_eq] at h1
    exact of_decide_eq_true (of_bool h1)
  refine Spec.fin_of_ne (fun h => ?_) (fun h => ?_)
  · rw [h] at h2; exact absurd h2 (by simp)
  · rw [h] at h2; exact absurd h2 (by simp)

theorem res_pos (h : (fn (F := Ideal) x c r o w n p).2.1 = fun _ => 1#1) (j : Fin 80) :
    0 < Spec.ss (fun j d => x (ix2 j d)) (fun d => c (ix1 d)) j := by
  have e : Host.reduceAdd (F := Ideal)
      (mulf (subf x (broadcastInDim S80x256 ![0, 1] bcast_S1x256_S80x256_0_1 (broadcastInDim S1x256 ![1] bcast_S256_S1x256_1 c)))
        (subf x (broadcastInDim S80x256 ![0, 1] bcast_S1x256_S80x256_0_1 (broadcastInDim S1x256 ![1] bcast_S256_S1x256_1 c))))
      (constant S_ .f32 0x00000000#32) reducesTo_S80x256_S80_d1 h_S_ (ix1 j)
      = Spec.ss (fun j d => x (ix2 j d)) (fun d => c (ix1 d)) j := by
    pointwise
    try rfl
  have h1 : Ideal.cmp .ogt _ (Ideal.ofBits .f32 0x00000000#32) = 1#1 := congrFun h (ix1 j)
  rw [zero_eq] at h1
  exact lt_of_lt_of_eq (of_decide_eq_true (of_bool h1)) e

theorem inner_ne (h : (fn (F := Ideal) x c r o w n p).2.2 = fun _ => 1#1) (k : Fin 524288) : p (ix1 k) ≠ 0 := by
  have h1 : Ideal.cmp .une (p (ix1 k)) (Ideal.ofBits .f32 0x00000000#32) = 1#1 := congrFun h (ix1 k)
  rw [zero_eq] at h1
  exact of_decide_eq_true (of_bool h1)

end

end Cert.Pre_regular_inputs

end
-- ==== Proof.Value.Agree.lean ====
/- Over equal arguments the kernel's arrays are the reference's. -/
module

public import proofs.«01_k».proof.Defs
public import proofs.«01_k».proof.Proof.Value.KernelRun
public import proofs.«01_k».proof.Proof.Value.ReferenceRun
public import proofs.«01_k».proof.Proof.Value.Regular

@[expose] public section

set_option maxRecDepth 16384

noncomputable section

namespace Cert.Agree

open Idealize.ShloMosaic Idealize.ShloMosaic.TcCoe Idealize.SL.Sem

section Arrays
variable (m : (ℓ : Loc Cert.KernelIdeal.nD Cert.KernelIdeal.τ Cert.KernelIdeal.sig) → Buf (Elt Ideal) ℓ) (c : Dev Cert.KernelIdeal.nD)

open Cert.KernelIdeal.Body (argX argC argR argO argW argN argP distArr boundArr ipArr codesArr deltaArr vlArr)

theorem dist_eq : Cert.ReferenceIdeal.Value.dist (argX m c) (argC m c) (argR m c) (argO m c) (argW m c) (argN m c) (argP m c) = distArr m c :=
  funext fun y => by
    rw [eq_ix2 y]
    exact Cert.ReferenceIdeal.Value.dist_at (argX m c) (argC m c) (argR m c) (argO m c) (argW m c) (argN m c) (argP m c) (y 0) (y 1)

theorem bnd_eq : Cert.ReferenceIdeal.Value.bnd (argX m c) (argC m c) (argN m c) (argP m c) = boundArr m c :=
  funext fun y => by
    rw [eq_ix2 y]
    exact Cert.ReferenceIdeal.Value.bnd_at (argX m c) (argC m c) (argN m c) (argP m c) (y 0) (y 1)

theorem est_eq : Cert.ReferenceIdeal.Value.est (argX m c) (argC m c) (argR m c) (argO m c) (argW m c) (argP m c) = ipArr m c :=
  funext fun y => by
    rw [eq_ix2 y]
    exact Cert.ReferenceIdeal.Value.est_at (argX m c) (argC m c) (argR m c) (argO m c) (argW m c) (argP m c) (y 0) (y 1)

theorem code_eq : Cert.ReferenceIdeal.Value.code (argX m c) (argC m c) (argR m c) (argO m c) = codesArr m c :=
  funext fun y => by
    rw [eq_ix2 y]
    exact Cert.ReferenceIdeal.Value.code_at (argX m c) (argC m c) (argR m c) (argO m c) (y 0) (y 1)

theorem step_eq : Cert.ReferenceIdeal.Value.step (argX m c) (argC m c) (argR m c) = deltaArr m c :=
  funext fun y => by
    rw [eq_ix1 y]
    exact Cert.ReferenceIdeal.Value.step_at (argX m c) (argC m c) (argR m c) (y 0)

theorem lo_eq : Cert.ReferenceIdeal.Value.lo (argX m c) (argC m c) (argR m c) = vlArr m c :=
  funext fun y => by
    rw [eq_ix1 y]
    exact Cert.ReferenceIdeal.Value.lo_at (argX m c) (argC m c) (argR m c) (y 0)

end Arrays

/-- The precondition gives what the agreement of the estimates takes. -/
theorem regular (m : (ℓ : Loc Cert.KernelIdeal.nD Cert.KernelIdeal.τ Cert.KernelIdeal.sig) → Buf (Elt Ideal) ℓ)
    (h : Cert.Pre_KernelIdeal_regular_inputs (hPre_regular_inputs := Cert.Pre_regular_inputs.facts) m) (c : Dev Cert.KernelIdeal.nD) :
    Cert.KernelIdeal.Body.Regular m c :=
  letI := Cert.Pre_regular_inputs.facts
  ⟨fun d e => Cert.Pre_regular_inputs.rot_fin _ _ _ _ _ _ _ (h c).1 d e,
    fun j => Cert.Pre_regular_inputs.res_pos _ _ _ _ _ _ _ (h c).2.1 j,
    fun k => Cert.Pre_regular_inputs.inner_ne _ _ _ _ _ _ _ (h c).2.2 k⟩

theorem algebraic : Cert.algebraic_KernelIdeal_ReferenceIdeal_pre_regular_inputs (hKernelIdeal := Cert.KernelIdeal.Gen.facts)
    (hReferenceIdeal := Cert.ReferenceIdeal.Gen.facts) (hPre_regular_inputs := Cert.Pre_regular_inputs.facts) := by
  intro m g m' g' hpre hargs
  refine ⟨Cert.KernelIdeal.Body.distArr m, Cert.KernelIdeal.Body.boundArr m, Cert.KernelIdeal.Body.ipArr m,
    Cert.KernelIdeal.Body.codesArr m, Cert.KernelIdeal.Body.deltaArr m, Cert.KernelIdeal.Body.vlArr m,
    Cert.KernelIdeal.Body.run_values m g (regular m hpre), ?_⟩
  refine (θ_run _ _ _).mono (fun r h c => ?_) (Cert.ReferenceIdeal.Value.run m' g')
  obtain ⟨⟨h0, h1, h2, h3, h4, h5⟩, hf⟩ := h c
  obtain ⟨a0, a1, a2, a3, a4, a5, a6⟩ := hargs c
  have e0 : Cert.ReferenceIdeal.Value.argX m' c = Cert.KernelIdeal.Body.argX m c := a0
  have e1 : Cert.ReferenceIdeal.Value.argC m' c = Cert.KernelIdeal.Body.argC m c := a1
  have e2 : Cert.ReferenceIdeal.Value.argR m' c = Cert.KernelIdeal.Body.argR m c := a2
  have e3 : Cert.ReferenceIdeal.Value.argO m' c = Cert.KernelIdeal.Body.argO m c := a3
  have e4 : Cert.ReferenceIdeal.Value.argW m' c = Cert.KernelIdeal.Body.argW m c := a4
  have e5 : Cert.ReferenceIdeal.Value.argN m' c = Cert.KernelIdeal.Body.argN m c := a5
  have e6 : Cert.ReferenceIdeal.Value.argP m' c = Cert.KernelIdeal.Body.argP m c := a6
  rw [e0, e1, e2, e3, e4, e5, e6] at h0
  rw [e0, e1, e5, e6] at h1
  rw [e0, e1, e2, e3, e4, e6] at h2
  rw [e0, e1, e2, e3] at h3
  rw [e0, e1, e2] at h4 h5
  exact ⟨h0.trans (dist_eq m c), h1.trans (bnd_eq m c), h2.trans (est_eq m c), h3.trans (code_eq m c), h4.trans (step_eq m c),
    h5.trans (lo_eq m c), hf⟩

end Cert.Agree

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Frame.Whole
public import proofs.«01_k».proof.Proof.Body.Run
public import proofs.«01_k».proof.Proof.Value.Agree
public import Idealize.ShloMosaic.Lib.Claim
public import Idealize.ShloMosaic.Lib.Quiescent
public import Idealize.ShloMosaic.Adequacy
public import Idealize.ShloMosaic.Init

@[expose] public section

set_option maxRecDepth 16384

noncomputable section

namespace Cert.Proof

open Idealize.ShloMosaic Idealize.SL.Sem

theorem frame_kernel : Cert.quiescent_Kernel := fun m ρ _ => Cert.Kernel.Whole.frame m ρ

theorem frame_kernelIdeal : Cert.quiescent_KernelIdeal := fun m ρ _ => Cert.KernelIdeal.Body.frame m ρ

set_option maxHeartbeats 1600000 in
theorem frame_referenceIdeal : Cert.quiescent_ReferenceIdeal := by
  intro m g _
  refine (θ_run _ _ _).mono (fun r h => ⟨h, Idealize.ShloMosaic.sem_eq_zero_of_no_sems (by decide) r.2⟩) ?_
  hlo_run

/-- The frames under the precondition are the frames without it. -/
theorem claim : Cert.Claim :=
  ⟨Cert.Kernel.Gen.facts, Cert.KernelIdeal.Gen.facts, Cert.ReferenceIdeal.Gen.facts, Cert.Pre_regular_inputs.facts,
    frame_kernel, frame_kernelIdeal, fun m ρ _ => frame_kernelIdeal m ρ trivial,
    frame_referenceIdeal, fun m ρ _ => frame_referenceIdeal m ρ trivial, trivial, Cert.Agree.algebraic⟩

end Cert.Proof

end
